-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.named_const.Statement Cert.Kernel2Ideal.κ "scale" .f32 0x3E38AA3B#32 (((1 / 8) * (Real.log 2)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v102) = v1 c
          ∧ r.2.mem ((c.tc : Thread Cert.Reference2Ideal.nD Cert.Reference2Ideal.τ).loc Cert.Reference2Ideal.main_v103) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  IdealRules.named_const.Statement Cert.Kernel5Ideal.κ "scale" .f32 0x3E38AA3B#32 (((1 / 8) * (Real.log 2)⁻¹ : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v32_0)) (v1 : (c : Dev Cert.Kernel5Ideal.nD) → Buf (Elt Ideal) ((c.tc : Thread Cert.Kernel5Ideal.nD Cert.Kernel5Ideal.τ).loc Cert.Kernel5Ideal.main_v32_1)) (v2 : (c : Dev Cert.Kernel5Ideal.nD) → Buf (Elt Ideal) ((c.tc : Thread Cert.Kernel5Ideal.nD Cert.Kernel5Ideal.τ).loc Cert.Kernel5Ideal.main_v32_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v32_0) = v0 c
          ∧ r.2.mem ((c.tc : Thread Cert.Kernel5Ideal.nD Cert.Kernel5Ideal.τ).loc Cert.Kernel5Ideal.main_v32_1) = v1 c
          ∧ r.2.mem ((c.tc : Thread Cert.Kernel5Ideal.nD Cert.Kernel5Ideal.τ).loc Cert.Kernel5Ideal.main_v32_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v66) = v1 c
          ∧ r.2.mem ((c.tc : Thread Cert.Reference5Ideal.nD Cert.Reference5Ideal.τ).loc Cert.Reference5Ideal.main_v67) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S98304x3072 : Shape := ⟨2, ![98304, 3072]⟩
abbrev S_ : Shape := ⟨0, ![]⟩
abbrev S64 : Shape := ⟨1, ![64]⟩
abbrev S128 : Shape := ⟨1, ![128]⟩

class Facts : Prop where
  bitsLt_bf16_f32 : FTy.bits .bf16 < FTy.bits .f32
  bcast_S_S98304x3072 : S_.BroadcastsInDim S98304x3072 (![] : Fin 0 → Fin S98304x3072.rank)
  reducesTo_S98304x3072_S_d0_1 : S98304x3072.ReducesTo [0, 1] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_v12 : IVec S_ 1) (main_v16 : IVec S_ 1) : IVec S_ 1 :=
  let main_v17 : IVec S_ 1 := andi main_v12 main_v16
  let main_v18 : FVec F S64 .f32 := Host.absf main_arg4
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_c_6 : IVec S_ 1 := constantI S_ 1 1#1
  let main_v21 : IVec S_ 1 := (fun x v => Host.reduce IntOp.andi x v reducesTo_S64_S_d0 h_S_) main_v20 main_c_6
  let main_v22 : IVec S_ 1 := andi main_v17 main_v21
  let main_v23 : FVec F S64 .f32 := Host.absf main_arg5
  let main_cst_7 : FVec F S_ .f32 := constant S_ .f32 0x7F800000#32
  let main_v24 : FVec F S64 .f32 := broadcastInDim S64 ![] bcast_S_S64 main_cst_7
  let main_v25 : IVec S64 1 := cmpf .olt main_v23 main_v24
  let main_c_8 : IVec S_ 1 := constantI S_ 1 1#1
  let main_v26 : IVec S_ 1 := (fun x v => Host.reduce IntOp.andi x v reducesTo_S64_S_d0 h_S_) main_v25 main_c_8
  let main_v27 : IVec S_ 1 := andi main_v22 main_v26
  main_v27

def fn {F : FTy → Type} [FloatOps F] (main_arg0 : FVec F S98304x3072 .bf16) (main_arg1 : FVec F S_ .f32) (main_arg2 : FVec F S64 .f32) (main_arg3 : FVec F S64 .f32) (main_arg4 : FVec F S64 .f32) (main_arg5 : FVec F S64 .f32) (main_arg6 : FVec F S128 .f32) : IVec S_ 1 :=
  let main_v0 : FVec F S98304x3072 .f32 := (extf .f32 · bitsLt_bf16_f32) main_arg0
  let main_v1 : FVec F S98304x3072 .f32 := Host.absf main_v0
  let main_cst : FVec F S_ .f32 := constant S_ .f32 0x7F800000#32
  let main_v2 : FVec F S98304x3072 .f32 := broadcastInDim S98304x3072 ![] bcast_S_S98304x3072 main_cst
  let main_v3 : IVec S98304x3072 1 := cmpf .olt main_v1 main_v2
  let main_c : IVec S_ 1 := constantI S_ 1 1#1
  let main_v4 : IVec S_ 1 := (fun x v => Host.reduce IntOp.andi x v reducesTo_S98304x3072_S_d0_1 h_S_) main_v3 main_c
  let main_v5 : FVec F S_ .f32 := Host.absf main_arg1
  let main_cst_0 : FVec F S_ .f32 := constant S_ .f32 0x7F800000#32
  let main_v6 : IVec S_ 1 := cmpf .olt main_v5 main_cst_0
  let main_v7 : IVec S_ 1 := andi main_v4 main_v6
  let main_v8 : FVec F S64 .f32 := Host.absf main_arg2
  let main_cst_1 : FVec F S_ .f32 := constant S_ .f32 0x7F800000#32
  let main_v9 : FVec F S64 .f32 := broadcastInDim S64 ![] bcast_S_S64 main_cst_1
  let main_v10 : IVec S64 1 := cmpf .olt main_v8 main_v9
  let main_c_2 : IVec S_ 1 := constantI S_ 1 1#1
  let main_v11 : IVec S_ 1 := (fun x v => Host.reduce IntOp.andi x v reducesTo_S64_S_d0 h_S_) main_v10 main_c_2
  let main_v12 : IVec S_ 1 := andi main_v7 main_v11
  let main_v13 : FVec F S64 .f32 := Host.absf main_arg3
  let main_cst_3 : FVec F S_ .f32 := constant S_ .f32 0x7F800000#32
  let main_v14 : FVec F S64 .f32 := broadcastInDim S64 ![] bcast_S_S64 main_cst_3
  let main_v15 : IVec S64 1 := cmpf .olt main_v13 main_v14
  let main_c_4 : IVec S_ 1 := constantI S_ 1 1#1
  let main_v16 : IVec S_ 1 := (fun x v => Host.reduce IntOp.andi x v reducesTo_S64_S_d0 h_S_) main_v15 main_c_4
  fn_part1 (F := F) main_arg4 main_arg5 main_v12 main_v16
-- ==== Kernel.lean ====
abbrev S98304x3072 : Shape := ⟨2, ![98304, 3072]⟩
abbrev S_ : Shape := ⟨0, ![]⟩
abbrev S64 : Shape := ⟨1, ![64]⟩
abbrev S128 : Shape := ⟨1, ![128]⟩
abbrev S1 : Shape := ⟨1, ![1]⟩
abbrev S2 : Shape := ⟨1, ![2]⟩
abbrev S1x128 : Shape := ⟨2, ![1, 128]⟩
abbrev S98304x1024 : Shape := ⟨2, ![98304, 1024]⟩
abbrev S2048x256 : Shape := ⟨2, ![2048, 256]⟩
abbrev S2x2048x256 : Shape := ⟨3, ![2, 2048, 256]⟩
abbrev S128x128 : Shape := ⟨2, ![128, 128]⟩
abbrev S2048x128 : Shape := ⟨2, ![2048, 128]⟩
abbrev S1x2048x128 : Shape := ⟨3, ![1, 2048, 128]⟩
abbrev S1x2048x256 : Shape := ⟨3, ![1, 2048, 256]⟩
abbrev S128x2048 : Shape := ⟨2, ![128, 2048]⟩
abbrev S128x1 : Shape := ⟨2, ![128, 1]⟩
abbrev S128x256 : Shape := ⟨2, ![128, 256]⟩

abbrev nBuf : Space → Nat
  | .hbm => 24
  | .vmem => 10
  | .smem => 1
  | _ => 0

abbrev bufTy : (tb : Table) → Fin (tcTables nBuf tb) → BufTy
  | .hbm, ⟨0, _⟩ => ⟨S98304x3072, .bf16⟩
  | .hbm, ⟨1, _⟩ => ⟨S_, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S2, .f32⟩
  | .hbm, ⟨22, _⟩ => ⟨S1x128, .f32⟩
  | .hbm, ⟨23, _⟩ => ⟨S98304x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S1x128, .f32⟩
  | .local _ .vmem, ⟨7, _⟩ => ⟨S2048x256, .bf16⟩
  | .local _ .vmem, ⟨8, _⟩ => ⟨S2048x256, .bf16⟩
  | .local _ .vmem, ⟨9, _⟩ => ⟨S2x2048x256, .bf16⟩
  | .local _ .smem, ⟨0, _⟩ => ⟨S2, .f32⟩
  | _, _ => ⟨S98304x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![48, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S98304x3072 : Shape := ⟨2, ![98304, 3072]⟩
abbrev S_ : Shape := ⟨0, ![]⟩
abbrev S64 : Shape := ⟨1, ![64]⟩
abbrev S128 : Shape := ⟨1, ![128]⟩
abbrev S98304x1024 : Shape := ⟨2, ![98304, 1024]⟩
abbrev S48x2048x8x2x64 : Shape := ⟨5, ![48, 2048, 8, 2, 64]⟩
abbrev S48x2048x8x128 : Shape := ⟨4, ![48, 2048, 8, 128]⟩
abbrev S48x8x2x2048x2048 : Shape := ⟨5, ![48, 8, 2, 2048, 2048]⟩
abbrev S48x8x2x2048 : Shape := ⟨4, ![48, 8, 2, 2048]⟩
abbrev S48x8x2x2048x1 : Shape := ⟨5, ![48, 8, 2, 2048, 1]⟩
abbrev S48x8x1x2048x2048 : Shape := ⟨5, ![48, 8, 1, 2048, 2048]⟩
abbrev S48x8x2048x2048 : Shape := ⟨4, ![48, 8, 2048, 2048]⟩
abbrev S48x8x128x2048 : Shape := ⟨4, ![48, 8, 128, 2048]⟩
abbrev S48x2048x8 : Shape := ⟨3, ![48, 2048, 8]⟩
abbrev S48x2048x8x1 : Shape := ⟨4, ![48, 2048, 8, 1]⟩
abbrev S1x1x1x128 : Shape := ⟨4, ![1, 1, 1, 128]⟩

abbrev nBuf : Space → Nat
  | .hbm => 74
  | .vmem => 0
  | .smem => 0
  | _ => 0

abbrev bufTy : (tb : Table) → Fin (tcTables nBuf tb) → BufTy
  | .hbm, ⟨0, _⟩ => ⟨S98304x3072, .bf16⟩
  | .hbm, ⟨1, _⟩ => ⟨S_, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S128, .f32⟩
  | .hbm, ⟨7, _⟩ => ⟨S98304x3072, .f32⟩
  | .hbm, ⟨8, _⟩ => ⟨S98304x1024, .f32⟩
  | .hbm, ⟨9, _⟩ => ⟨S98304x1024, .f32⟩
  | .hbm, ⟨10, _⟩ => ⟨S98304x1024, .f32⟩
  | .hbm, ⟨11, _⟩ => ⟨S48x2048x8x2x64, .f32⟩
  | .hbm, ⟨12, _⟩ => ⟨S48x2048x8x2x64, .f32⟩
  | .hbm, ⟨13, _⟩ => ⟨S48x2048x8x128, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S48x8x2x2048x2048, .f32⟩
  | .hbm, ⟨25, _⟩ => ⟨S_, .f32⟩
  | .hbm, ⟨26, _⟩ => ⟨S_, .f32⟩
  | .hbm, ⟨27, _⟩ => ⟨S48x8x2x2048x2048, .f32⟩
  | .hbm, ⟨28, _⟩ => ⟨S48x8x2x2048x2048, .f32⟩
  | .hbm, ⟨29, _⟩ => ⟨S_, .f32⟩
  | .hbm, ⟨30, _⟩ => ⟨S48x8x2x2048, .f32⟩
  | .hbm, ⟨31, _⟩ => ⟨S_, .f32⟩
  | .hbm, ⟨32, _⟩ => ⟨S48x8x2x2048, .f32⟩
  | .hbm, ⟨33, _⟩ => ⟨S48x8x2x2048, .f32⟩
  | .hbm, ⟨34, _⟩ => ⟨S48x8x2x2048x1, .f32⟩
  | .hbm, ⟨35, _⟩ => ⟨S48x8x2x2048x2048, .f32⟩
  | .hbm, ⟨36, _⟩ => ⟨S48x8x2x2048x2048, .f32⟩
  | .hbm, ⟨37, _⟩ => ⟨S48x8x2x2048x2048, .f32⟩
  | .hbm, ⟨38, _⟩ => ⟨S_, .f32⟩
  | .hbm, ⟨39, _⟩ => ⟨S48x8x2x2048, .f32⟩
  | .hbm, ⟨40, _⟩ => ⟨S48x8x2x2048x1, .f32⟩
  | .hbm, ⟨41, _⟩ => ⟨S48x8x2x2048x2048, .f32⟩
  | .hbm, ⟨42, _⟩ => ⟨S48x8x2x2048x2048, .f32⟩
  | .hbm, ⟨43, _⟩ => ⟨S48x8x1x2048x2048, .f32⟩
  | .hbm, ⟨44, _⟩ => ⟨S48x8x2048x2048, .f32⟩
  | .hbm, ⟨45, _⟩ => ⟨S48x8x1x2048x2048, .f32⟩
  | .hbm, ⟨46, _⟩ => ⟨S48x8x2048x2048, .f32⟩
  | .hbm, ⟨47, _⟩ => ⟨S48x8x2048x2048, .f32⟩
  | .hbm, ⟨48, _⟩ => ⟨S48x8x2048x2048, .f32⟩
  | .hbm, ⟨49, _⟩ => ⟨S48x8x2048x2048, .f32⟩
  | .hbm, ⟨50, _⟩ => ⟨S48x8x128x2048, .f32⟩
  | .hbm, ⟨51, _⟩ => ⟨S48x2048x8x128, .f32⟩
  | .hbm, ⟨52, _⟩ => ⟨S48x2048x8x128, .f32⟩
  | .hbm, ⟨53, _⟩ => ⟨S_, .f32⟩
  | .hbm, ⟨54, _⟩ => ⟨S48x2048x8, .f32⟩
  | .hbm, ⟨55, _⟩ => ⟨S48x2048x8x1, .f32⟩
  | .hbm, ⟨56, _⟩ => ⟨S_, .f32⟩
  | .hbm, ⟨57, _⟩ => ⟨S48x2048x8x1, .f32⟩
  | .hbm, ⟨58, _⟩ => ⟨S48x2048x8x1, .f32⟩
  | .hbm, ⟨59, _⟩ => ⟨S_, .f32⟩
  | .hbm, ⟨60, _⟩ => ⟨S48x2048x8x1, .f32⟩
  | .hbm, ⟨61, _⟩ => ⟨S48x2048x8x1, .f32⟩
  | .hbm, ⟨62, _⟩ => ⟨S48x2048x8x1, .f32⟩
  | .hbm, ⟨63, _⟩ => ⟨S48x2048x8x128, .f32⟩
  | .hbm, ⟨64, _⟩ => ⟨S48x2048x8x128, .f32⟩
  | .hbm, ⟨65, _⟩ => ⟨S1x1x1x128, .f32⟩
  | .hbm, ⟨66, _⟩ => ⟨S48x2048x8x128, .f32⟩
  | .hbm, ⟨67, _⟩ => ⟨S48x2048x8x128, .f32⟩
  | .hbm, ⟨68, _⟩ => ⟨S_, .f32⟩
  | .hbm, ⟨69, _⟩ => ⟨S_, .f32⟩
  | .hbm, ⟨70, _⟩ => ⟨S48x2048x8x128, .f32⟩
  | .hbm, ⟨71, _⟩ => ⟨S48x2048x8x128, .f32⟩
  | .hbm, ⟨72, _⟩ => ⟨S98304x1024, .f32⟩
  | .hbm, ⟨73, _⟩ => ⟨S98304x1024, .bf16⟩
  | _, _ => ⟨S98304x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Kernel2.lean ====
abbrev S786432x128 : Shape := ⟨2, ![786432, 128]⟩
abbrev S1581056x128 : Shape := ⟨2, ![1581056, 128]⟩
abbrev S98304x128 : Shape := ⟨2, ![98304, 128]⟩
abbrev S1024 : Shape := ⟨1, ![1024]⟩
abbrev S1024x7168 : Shape := ⟨2, ![1024, 7168]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S128 : Shape := ⟨1, ![128]⟩
abbrev S1x128 : Shape := ⟨2, ![1, 128]⟩
abbrev S1x1024 : Shape := ⟨2, ![1, 1024]⟩
abbrev S98304x1024 : Shape := ⟨2, ![98304, 1024]⟩
abbrev S98304x3072 : Shape := ⟨2, ![98304, 3072]⟩
abbrev S98304x4096 : Shape := ⟨2, ![98304, 4096]⟩
abbrev S4096x128 : Shape := ⟨2, ![4096, 128]⟩
abbrev S512x128 : Shape := ⟨2, ![512, 128]⟩
abbrev S512x1024 : Shape := ⟨2, ![512, 1024]⟩
abbrev S512x3072 : Shape := ⟨2, ![512, 3072]⟩
abbrev S512x4096 : Shape := ⟨2, ![512, 4096]⟩
abbrev S512x1 : Shape := ⟨2, ![512, 1]⟩
abbrev S512 : Shape := ⟨1, ![512]⟩
abbrev S1024x512 : Shape := ⟨2, ![1024, 512]⟩
abbrev S512x512 : Shape := ⟨2, ![512, 512]⟩

abbrev nBuf : Space → Nat
  | .hbm => 69
  | .vmem => 21
  | .smem => 0
  | _ => 0

abbrev bufTy : (tb : Table) → Fin (tcTables nBuf tb) → BufTy
  | .hbm, ⟨0, _⟩ => ⟨S786432x128, .f32⟩
  | .hbm, ⟨1, _⟩ => ⟨S1581056x128, .f32⟩
  | .hbm, ⟨2, _⟩ => ⟨S98304x128, .f32⟩
  | .hbm, ⟨3, _⟩ => ⟨S1024, .f32⟩
  | .hbm, ⟨4, _⟩ => ⟨S1024, .f32⟩
  | .hbm, ⟨5, _⟩ => ⟨S1024x7168, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S1x2048x1x32, .f32⟩
  | .hbm, ⟨22, _⟩ => ⟨S1x2048x4x32, .f32⟩
  | .hbm, ⟨23, _⟩ => ⟨S2048x128, .f32⟩
  | .hbm, ⟨24, _⟩ => ⟨S2048x32, .f32⟩
  | .hbm, ⟨25, _⟩ => ⟨S1x2048x1x32, .f32⟩
  | .hbm, ⟨26, _⟩ => ⟨S1x2048x4x32, .f32⟩
  | .hbm, ⟨27, _⟩ => ⟨S2048x128, .f32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S128, .i32⟩
  | .hbm, ⟨36, _⟩ => ⟨S128, .i32⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S_, .i1⟩
  | .hbm, ⟨45, _⟩ => ⟨S128, .i1⟩
  | .hbm, ⟨46, _⟩ => ⟨S128, .i1⟩
  | .hbm, ⟨47, _⟩ => ⟨S128, .i1⟩
  | .hbm, ⟨48, _⟩ => ⟨S128, .i32⟩
  | .hbm, ⟨49, _⟩ => ⟨S128, .i32⟩
  | .hbm, ⟨50, _⟩ => ⟨S128, .i32⟩
  | .hbm, ⟨51, _⟩ => ⟨S_, .i32⟩
  | .hbm, ⟨52, _⟩ => ⟨S128, .i32⟩
  | .hbm, ⟨53, _⟩ => ⟨S128, .i1⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S2048x128, .f32⟩
  | .hbm, ⟨62, _⟩ => ⟨S2048x128, .f32⟩
  | .hbm, ⟨63, _⟩ => ⟨S1x1024, .f32⟩
  | .hbm, ⟨64, _⟩ => ⟨S1x1024, .f32⟩
  | .hbm, ⟨65, _⟩ => ⟨S1024x7168, .bf16⟩
  | .hbm, ⟨66, _⟩ => ⟨S98304x1024, .f32⟩
  | .hbm, ⟨67, _⟩ => ⟨S98304x3072, .bf16⟩
  | .hbm, ⟨68, _⟩ => ⟨S98304x4096, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S1x1024, .f32⟩
  | .local _ .vmem, ⟨10, _⟩ => ⟨S1024x7168, .bf16⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x1024, .f32⟩
  | .local _ .vmem, ⟨16, _⟩ => ⟨S512x1024, .f32⟩
  | .local _ .vmem, ⟨17, _⟩ => ⟨S512x3072, .bf16⟩
  | .local _ .vmem, ⟨18, _⟩ => ⟨S512x3072, .bf16⟩
  | .local _ .vmem, ⟨19, _⟩ => ⟨S512x4096, .bf16⟩
  | .local _ .vmem, ⟨20, _⟩ => ⟨S512x4096, .bf16⟩
  | _, _ => ⟨S786432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_call0_v0 : Ref sig .tc := ⟨.hbm, 30, rfl⟩
abbrev main_call0_c : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_c_1 : Ref sig .tc := ⟨.hbm, 37, rfl⟩
abbrev main_call0_v5 : Ref sig .tc := ⟨.hbm, 38, rfl⟩
abbrev main_call0_v6 : Ref sig .tc := ⟨.hbm, 39, rfl⟩
abbrev main_call0_c_2 : Ref sig .tc := ⟨.hbm, 40, rfl⟩
abbrev main_call0_v7 : Ref sig .tc := ⟨.hbm, 41, rfl⟩
abbrev main_call0_v8 : Ref sig .tc := ⟨.hbm, 42, rfl⟩
abbrev main_call0_c_3 : Ref sig .tc := ⟨.hbm, 43, rfl⟩
abbrev main_call0_v9 : Ref sig .tc := ⟨.hbm, 44, rfl⟩
abbrev main_call0_v10 : Ref sig .tc := ⟨.hbm, 45, rfl⟩
abbrev main_call0_v11 : Ref sig .tc := ⟨.hbm, 46, rfl⟩
abbrev main_call0_v12 : Ref sig .tc := ⟨.hbm, 47, rfl⟩
abbrev main_call0_v13 : Ref sig .tc := ⟨.hbm, 48, rfl⟩
abbrev main_call0_v14 : Ref sig .tc := ⟨.hbm, 49, rfl⟩
abbrev main_v21 : Ref sig .tc := ⟨.hbm, 50, rfl⟩
abbrev main_c_1 : Ref sig .tc := ⟨.hbm, 51, rfl⟩
abbrev main_v22 : Ref sig .tc := ⟨.hbm, 52, rfl⟩
abbrev main_v23 : Ref sig .tc := ⟨.hbm, 53, rfl⟩
abbrev main_cst_2 : Ref sig .tc := ⟨.hbm, 54, rfl⟩
abbrev main_cst_3 : Ref sig .tc := ⟨.hbm, 55, rfl⟩
abbrev main_call1_v0 : Ref sig .tc := ⟨.hbm, 56, rfl⟩
abbrev main_call1_v1 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32_0 : Ref sig .tc := ⟨.hbm, 66, rfl⟩
abbrev main_v32_1 : Ref sig .tc := ⟨.hbm, 67, rfl⟩
abbrev main_v32_2 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c192_i32 : BitVec 32 := 192#32
  let v0 : BitVec 32 := Scalar.addi arg0 c192_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x7168 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
variable {F : FTy → Type} [FloatOps F] [Named F]
def κ : String → Option EReal := fun
  | "scale" => some (((1 / 8) * (Real.log 2)⁻¹ : ℝ) : EReal)
  | _ => none
-- ==== Reference2Ideal.lean ====
abbrev S786432x128 : Shape := ⟨2, ![786432, 128]⟩
abbrev S1581056x128 : Shape := ⟨2, ![1581056, 128]⟩
abbrev S98304x128 : Shape := ⟨2, ![98304, 128]⟩
abbrev S1024 : Shape := ⟨1, ![1024]⟩
abbrev S1024x7168 : Shape := ⟨2, ![1024, 7168]⟩
abbrev S98304x1024 : Shape := ⟨2, ![98304, 1024]⟩
abbrev S197632x1024 : Shape := ⟨2, ![197632, 1024]⟩
abbrev S98304x1 : Shape := ⟨2, ![98304, 1]⟩
abbrev S_ : Shape := ⟨0, ![]⟩
abbrev S98304 : Shape := ⟨1, ![98304]⟩
abbrev S1x1024 : Shape := ⟨2, ![1, 1024]⟩
abbrev S98304x7168 : Shape := ⟨2, ![98304, 7168]⟩
abbrev S98304x4096 : Shape := ⟨2, ![98304, 4096]⟩
abbrev S48x2048x8x2x64 : Shape := ⟨5, ![48, 2048, 8, 2, 64]⟩
abbrev S32 : Shape := ⟨1, ![32]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x1x64 : Shape := ⟨5, ![1, 2048, 1, 1, 64]⟩
abbrev S48x2048x8x2x32 : Shape := ⟨5, ![48, 2048, 8, 2, 32]⟩
abbrev S98304x3072 : Shape := ⟨2, ![98304, 3072]⟩

abbrev nBuf : Space → Nat
  | .hbm => 122
  | .vmem => 0
  | .smem => 0
  | _ => 0

abbrev bufTy : (tb : Table) → Fin (tcTables nBuf tb) → BufTy
  | .hbm, ⟨0, _⟩ => ⟨S786432x128, .f32⟩
  | .hbm, ⟨1, _⟩ => ⟨S1581056x128, .f32⟩
  | .hbm, ⟨2, _⟩ => ⟨S98304x128, .f32⟩
  | .hbm, ⟨3, _⟩ => ⟨S1024, .f32⟩
  | .hbm, ⟨4, _⟩ => ⟨S1024, .f32⟩
  | .hbm, ⟨5, _⟩ => ⟨S1024x7168, .f32⟩
  | .hbm, ⟨6, _⟩ => ⟨S98304x1024, .f32⟩
  | .hbm, ⟨7, _⟩ => ⟨S197632x1024, .f32⟩
  | .hbm, ⟨8, _⟩ => ⟨S98304x1024, .f32⟩
  | .hbm, ⟨9, _⟩ => ⟨S98304x1024, .f32⟩
  | .hbm, ⟨10, _⟩ => ⟨S98304x1, .f32⟩
  | .hbm, ⟨11, _⟩ => ⟨S98304x1, .f32⟩
  | .hbm, ⟨12, _⟩ => ⟨S_, .f32⟩
  | .hbm, ⟨13, _⟩ => ⟨S98304x1024, .f32⟩
  | .hbm, ⟨14, _⟩ => ⟨S98304x1024, .f32⟩
  | .hbm, ⟨15, _⟩ => ⟨S98304x1024, .f32⟩
  | .hbm, ⟨16, _⟩ => ⟨S98304x1024, .f32⟩
  | .hbm, ⟨17, _⟩ => ⟨S98304x1024, .f32⟩
  | .hbm, ⟨18, _⟩ => ⟨S98304x1024, .f32⟩
  | .hbm, ⟨19, _⟩ => ⟨S98304x1024, .f32⟩
  | .hbm, ⟨20, _⟩ => ⟨S98304x1024, .f32⟩
  | .hbm, ⟨21, _⟩ => ⟨S_, .f32⟩
  | .hbm, ⟨22, _⟩ => ⟨S98304, .f32⟩
  | .hbm, ⟨23, _⟩ => ⟨S98304x1, .f32⟩
  | .hbm, ⟨24, _⟩ => ⟨S_, .f32⟩
  | .hbm, ⟨25, _⟩ => ⟨S98304x1, .f32⟩
  | .hbm, ⟨26, _⟩ => ⟨S98304x1, .f32⟩
  | .hbm, ⟨27, _⟩ => ⟨S98304x1024, .f32⟩
  | .hbm, ⟨28, _⟩ => ⟨S98304x1024, .f32⟩
  | .hbm, ⟨29, _⟩ => ⟨S98304x1024, .f32⟩
  | .hbm, ⟨30, _⟩ => ⟨S_, .f32⟩
  | .hbm, ⟨31, _⟩ => ⟨S98304, .f32⟩
  | .hbm, ⟨32, _⟩ => ⟨S98304x1, .f32⟩
  | .hbm, ⟨33, _⟩ => ⟨S_, .f32⟩
  | .hbm, ⟨34, _⟩ => ⟨S98304x1, .f32⟩
  | .hbm, ⟨35, _⟩ => ⟨S98304x1, .f32⟩
  | .hbm, ⟨36, _⟩ => ⟨S98304x1024, .f32⟩
  | .hbm, ⟨37, _⟩ => ⟨S98304x1024, .f32⟩
  | .hbm, ⟨38, _⟩ => ⟨S_, .f32⟩
  | .hbm, ⟨39, _⟩ => ⟨S98304x1, .f32⟩
  | .hbm, ⟨40, _⟩ => ⟨S98304x1, .f32⟩
  | .hbm, ⟨41, _⟩ => ⟨S98304x1, .f32⟩
  | .hbm, ⟨42, _⟩ => ⟨S98304x1024, .f32⟩
  | .hbm, ⟨43, _⟩ => ⟨S98304x1024, .f32⟩
  | .hbm, ⟨44, _⟩ => ⟨S1x1024, .f32⟩
  | .hbm, ⟨45, _⟩ => ⟨S98304x1024, .f32⟩
  | .hbm, ⟨46, _⟩ => ⟨S98304x1024, .f32⟩
  | .hbm, ⟨47, _⟩ => ⟨S1x1024, .f32⟩
  | .hbm, ⟨48, _⟩ => ⟨S98304x1024, .f32⟩
  | .hbm, ⟨49, _⟩ => ⟨S98304x1024, .f32⟩
  | .hbm, ⟨50, _⟩ => ⟨S98304x7168, .f32⟩
  | .hbm, ⟨51, _⟩ => ⟨S98304x1024, .f32⟩
  | .hbm, ⟨52, _⟩ => ⟨S98304x1024, .f32⟩
  | .hbm, ⟨53, _⟩ => ⟨S98304x1024, .f32⟩
  | .hbm, ⟨54, _⟩ => ⟨S98304x4096, .f32⟩
  | .hbm, ⟨55, _⟩ => ⟨S48x2048x8x2x64, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S2048, .f32⟩
  | .hbm, ⟨65, _⟩ => ⟨S2048x1, .f32⟩
  | .hbm, ⟨66, _⟩ => ⟨S1x32, .f32⟩
  | .hbm, ⟨67, _⟩ => ⟨S2048x32, .f32⟩
  | .hbm, ⟨68, _⟩ => ⟨S2048x32, .f32⟩
  | .hbm, ⟨69, _⟩ => ⟨S2048x32, .f32⟩
  | .hbm, ⟨70, _⟩ => ⟨S2048x64, .f32⟩
  | .hbm, ⟨71, _⟩ => ⟨S1x2048x1x1x64, .f32⟩
  | .hbm, ⟨72, _⟩ => ⟨S48x2048x8x2x32, .f32⟩
  | .hbm, ⟨73, _⟩ => ⟨S48x2048x8x2x32, .f32⟩
  | .hbm, ⟨74, _⟩ => ⟨S48x2048x8x2x32, .f32⟩
  | .hbm, ⟨75, _⟩ => ⟨S48x2048x8x2x64, .f32⟩
  | .hbm, ⟨76, _⟩ => ⟨S1x2048x1x1x64, .f32⟩
  | .hbm, ⟨77, _⟩ => ⟨S48x2048x8x2x64, .f32⟩
  | .hbm, ⟨78, _⟩ => ⟨S48x2048x8x2x64, .f32⟩
  | .hbm, ⟨79, _⟩ => ⟨S1x2048x1x1x64, .f32⟩
  | .hbm, ⟨80, _⟩ => ⟨S48x2048x8x2x64, .f32⟩
  | .hbm, ⟨81, _⟩ => ⟨S48x2048x8x2x64, .f32⟩
  | .hbm, ⟨82, _⟩ => ⟨S48x2048x8x2x64, .f32⟩
  | .hbm, ⟨83, _⟩ => ⟨S98304x1024, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S98304x1024, .f32⟩
  | .hbm, ⟨89, _⟩ => ⟨S98304x1024, .f32⟩
  | .hbm, ⟨90, _⟩ => ⟨S48x2048x8x2x64, .f32⟩
  | .hbm, ⟨91, _⟩ => ⟨S32, .f32⟩
  | .hbm, ⟨92, _⟩ => ⟨S32, .f32⟩
  | .hbm, ⟨93, _⟩ => ⟨S_, .f32⟩
  | .hbm, ⟨94, _⟩ => ⟨S32, .f32⟩
  | .hbm, ⟨95, _⟩ => ⟨S32, .f32⟩
  | .hbm, ⟨96, _⟩ => ⟨S_, .f32⟩
  | .hbm, ⟨97, _⟩ => ⟨S32, .f32⟩
  | .hbm, ⟨98, _⟩ => ⟨S32, .f32⟩
  | .hbm, ⟨99, _⟩ => ⟨S2048, .f32⟩
  | .hbm, ⟨100, _⟩ => ⟨S2048x1, .f32⟩
  | .hbm, ⟨101, _⟩ => ⟨S1x32, .f32⟩
  | .hbm, ⟨102, _⟩ => ⟨S2048x32, .f32⟩
  | .hbm, ⟨103, _⟩ => ⟨S2048x32, .f32⟩
  | .hbm, ⟨104, _⟩ => ⟨S2048x32, .f32⟩
  | .hbm, ⟨105, _⟩ => ⟨S2048x64, .f32⟩
  | .hbm, ⟨106, _⟩ => ⟨S1x2048x1x1x64, .f32⟩
  | .hbm, ⟨107, _⟩ => ⟨S48x2048x8x2x32, .f32⟩
  | .hbm, ⟨108, _⟩ => ⟨S48x2048x8x2x32, .f32⟩
  | .hbm, ⟨109, _⟩ => ⟨S48x2048x8x2x32, .f32⟩
  | .hbm, ⟨110, _⟩ => ⟨S48x2048x8x2x64, .f32⟩
  | .hbm, ⟨111, _⟩ => ⟨S1x2048x1x1x64, .f32⟩
  | .hbm, ⟨112, _⟩ => ⟨S48x2048x8x2x64, .f32⟩
  | .hbm, ⟨113, _⟩ => ⟨S48x2048x8x2x64, .f32⟩
  | .hbm, ⟨114, _⟩ => ⟨S1x2048x1x1x64, .f32⟩
  | .hbm, ⟨115, _⟩ => ⟨S48x2048x8x2x64, .f32⟩
  | .hbm, ⟨116, _⟩ => ⟨S48x2048x8x2x64, .f32⟩
  | .hbm, ⟨117, _⟩ => ⟨S48x2048x8x2x64, .f32⟩
  | .hbm, ⟨118, _⟩ => ⟨S98304x1024, .f32⟩
  | .hbm, ⟨119, _⟩ => ⟨S98304x3072, .f32⟩
  | .hbm, ⟨120, _⟩ => ⟨S98304x3072, .bf16⟩
  | .hbm, ⟨121, _⟩ => ⟨S98304x4096, .bf16⟩
  | _, _ => ⟨S786432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_cst_7 : Ref sig .tc := ⟨.hbm, 84, rfl⟩
abbrev main_v70 : Ref sig .tc := ⟨.hbm, 85, rfl⟩
abbrev main_cst_8 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_cst_9 : Ref sig .tc := ⟨.hbm, 93, rfl⟩
abbrev main_v77 : Ref sig .tc := ⟨.hbm, 94, rfl⟩
abbrev main_v78 : Ref sig .tc := ⟨.hbm, 95, rfl⟩
abbrev main_cst_10 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩

abbrev nD : Nat := 1
abbrev τ : Topo := Topo.v7x

variable {F : FTy → Type} [FloatOps F]
-- ==== Kernel3.lean ====
abbrev S786432x128 : Shape := ⟨2, ![786432, 128]⟩
abbrev S1581056x128 : Shape := ⟨2, ![1581056, 128]⟩
abbrev S98304x128 : Shape := ⟨2, ![98304, 128]⟩
abbrev S1024 : Shape := ⟨1, ![1024]⟩
abbrev S1x1024 : Shape := ⟨2, ![1, 1024]⟩
abbrev S32768x1024 : Shape := ⟨2, ![32768, 1024]⟩
abbrev S2048x128 : Shape := ⟨2, ![2048, 128]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S786432x128, .f32⟩
  | .hbm, ⟨1, _⟩ => ⟨S1581056x128, .f32⟩
  | .hbm, ⟨2, _⟩ => ⟨S98304x128, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S786432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c384_i32 : BitVec 32 := 384#32
  let v0 : BitVec 32 := Scalar.addi arg0 c384_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S786432x128 : Shape := ⟨2, ![786432, 128]⟩
abbrev S1581056x128 : Shape := ⟨2, ![1581056, 128]⟩
abbrev S98304x128 : Shape := ⟨2, ![98304, 128]⟩
abbrev S1024 : Shape := ⟨1, ![1024]⟩
abbrev S98304x1024 : Shape := ⟨2, ![98304, 1024]⟩
abbrev S197632x1024 : Shape := ⟨2, ![197632, 1024]⟩
abbrev S98304x1 : Shape := ⟨2, ![98304, 1]⟩
abbrev S_ : Shape := ⟨0, ![]⟩
abbrev S98304 : Shape := ⟨1, ![98304]⟩
abbrev S1x1024 : Shape := ⟨2, ![1, 1024]⟩
abbrev S32768x1024 : Shape := ⟨2, ![32768, 1024]⟩

abbrev nBuf : Space → Nat
  | .hbm => 50
  | .vmem => 0
  | .smem => 0
  | _ => 0

abbrev bufTy : (tb : Table) → Fin (tcTables nBuf tb) → BufTy
  | .hbm, ⟨0, _⟩ => ⟨S786432x128, .f32⟩
  | .hbm, ⟨1, _⟩ => ⟨S1581056x128, .f32⟩
  | .hbm, ⟨2, _⟩ => ⟨S98304x128, .f32⟩
  | .hbm, ⟨3, _⟩ => ⟨S1024, .f32⟩
  | .hbm, ⟨4, _⟩ => ⟨S1024, .f32⟩
  | .hbm, ⟨5, _⟩ => ⟨S98304x1024, .f32⟩
  | .hbm, ⟨6, _⟩ => ⟨S197632x1024, .f32⟩
  | .hbm, ⟨7, _⟩ => ⟨S98304x1024, .f32⟩
  | .hbm, ⟨8, _⟩ => ⟨S98304x1024, .f32⟩
  | .hbm, ⟨9, _⟩ => ⟨S98304x1, .f32⟩
  | .hbm, ⟨10, _⟩ => ⟨S98304x1, .f32⟩
  | .hbm, ⟨11, _⟩ => ⟨S_, .f32⟩
  | .hbm, ⟨12, _⟩ => ⟨S98304x1024, .f32⟩
  | .hbm, ⟨13, _⟩ => ⟨S98304x1024, .f32⟩
  | .hbm, ⟨14, _⟩ => ⟨S98304x1024, .f32⟩
  | .hbm, ⟨15, _⟩ => ⟨S98304x1024, .f32⟩
  | .hbm, ⟨16, _⟩ => ⟨S98304x1024, .f32⟩
  | .hbm, ⟨17, _⟩ => ⟨S98304x1024, .f32⟩
  | .hbm, ⟨18, _⟩ => ⟨S98304x1024, .f32⟩
  | .hbm, ⟨19, _⟩ => ⟨S98304x1024, .f32⟩
  | .hbm, ⟨20, _⟩ => ⟨S_, .f32⟩
  | .hbm, ⟨21, _⟩ => ⟨S98304, .f32⟩
  | .hbm, ⟨22, _⟩ => ⟨S98304x1, .f32⟩
  | .hbm, ⟨23, _⟩ => ⟨S_, .f32⟩
  | .hbm, ⟨24, _⟩ => ⟨S98304x1, .f32⟩
  | .hbm, ⟨25, _⟩ => ⟨S98304x1, .f32⟩
  | .hbm, ⟨26, _⟩ => ⟨S98304x1024, .f32⟩
  | .hbm, ⟨27, _⟩ => ⟨S98304x1024, .f32⟩
  | .hbm, ⟨28, _⟩ => ⟨S98304x1024, .f32⟩
  | .hbm, ⟨29, _⟩ => ⟨S_, .f32⟩
  | .hbm, ⟨30, _⟩ => ⟨S98304, .f32⟩
  | .hbm, ⟨31, _⟩ => ⟨S98304x1, .f32⟩
  | .hbm, ⟨32, _⟩ => ⟨S_, .f32⟩
  | .hbm, ⟨33, _⟩ => ⟨S98304x1, .f32⟩
  | .hbm, ⟨34, _⟩ => ⟨S98304x1, .f32⟩
  | .hbm, ⟨35, _⟩ => ⟨S98304x1024, .f32⟩
  | .hbm, ⟨36, _⟩ => ⟨S98304x1024, .f32⟩
  | .hbm, ⟨37, _⟩ => ⟨S_, .f32⟩
  | .hbm, ⟨38, _⟩ => ⟨S98304x1, .f32⟩
  | .hbm, ⟨39, _⟩ => ⟨S98304x1, .f32⟩
  | .hbm, ⟨40, _⟩ => ⟨S98304x1, .f32⟩
  | .hbm, ⟨41, _⟩ => ⟨S98304x1024, .f32⟩
  | .hbm, ⟨42, _⟩ => ⟨S98304x1024, .f32⟩
  | .hbm, ⟨43, _⟩ => ⟨S1x1024, .f32⟩
  | .hbm, ⟨44, _⟩ => ⟨S98304x1024, .f32⟩
  | .hbm, ⟨45, _⟩ => ⟨S98304x1024, .f32⟩
  | .hbm, ⟨46, _⟩ => ⟨S1x1024, .f32⟩
  | .hbm, ⟨47, _⟩ => ⟨S98304x1024, .f32⟩
  | .hbm, ⟨48, _⟩ => ⟨S98304x1024, .f32⟩
  | .hbm, ⟨49, _⟩ => ⟨S32768x1024, .f32⟩
  | _, _ => ⟨S786432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel4.lean ====
abbrev S786432x128 : Shape := ⟨2, ![786432, 128]⟩
abbrev S1581056x128 : Shape := ⟨2, ![1581056, 128]⟩
abbrev S98304x128 : Shape := ⟨2, ![98304, 128]⟩
abbrev S1024 : Shape := ⟨1, ![1024]⟩
abbrev S1x1024 : Shape := ⟨2, ![1, 1024]⟩
abbrev S65536x1024 : Shape := ⟨2, ![65536, 1024]⟩
abbrev S2048x128 : Shape := ⟨2, ![2048, 128]⟩
abbrev S256x128 : Shape := ⟨2, ![256, 128]⟩
abbrev S256x1024 : Shape := ⟨2, ![256, 1024]⟩
abbrev S256x1 : Shape := ⟨2, ![256, 1]⟩
abbrev S256 : Shape := ⟨1, ![256]⟩

abbrev nBuf : Space → Nat
  | .hbm => 8
  | .vmem => 12
  | .smem => 0
  | _ => 0

abbrev bufTy : (tb : Table) → Fin (tcTables nBuf tb) → BufTy
  | .hbm, ⟨0, _⟩ => ⟨S786432x128, .f32⟩
  | .hbm, ⟨1, _⟩ => ⟨S1581056x128, .f32⟩
  | .hbm, ⟨2, _⟩ => ⟨S98304x128, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S65536x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | _, _ => ⟨S786432x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c512_i32 : BitVec 32 := 512#32
  let v0 : BitVec 32 := Scalar.addi arg0 c512_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c128_i32 : BitVec 32 := 128#32
  let v0 : BitVec 32 := Scalar.addi arg0 c128_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S786432x128 : Shape := ⟨2, ![786432, 128]⟩
abbrev S1581056x128 : Shape := ⟨2, ![1581056, 128]⟩
abbrev S98304x128 : Shape := ⟨2, ![98304, 128]⟩
abbrev S1024 : Shape := ⟨1, ![1024]⟩
abbrev S98304x1024 : Shape := ⟨2, ![98304, 1024]⟩
abbrev S197632x1024 : Shape := ⟨2, ![197632, 1024]⟩
abbrev S98304x1 : Shape := ⟨2, ![98304, 1]⟩
abbrev S_ : Shape := ⟨0, ![]⟩
abbrev S98304 : Shape := ⟨1, ![98304]⟩
abbrev S1x1024 : Shape := ⟨2, ![1, 1024]⟩
abbrev S65536x1024 : Shape := ⟨2, ![65536, 1024]⟩

abbrev nBuf : Space → Nat
  | .hbm => 50
  | .vmem => 0
  | .smem => 0
  | _ => 0

abbrev bufTy : (tb : Table) → Fin (tcTables nBuf tb) → BufTy
  | .hbm, ⟨0, _⟩ => ⟨S786432x128, .f32⟩
  | .hbm, ⟨1, _⟩ => ⟨S1581056x128, .f32⟩
  | .hbm, ⟨2, _⟩ => ⟨S98304x128, .f32⟩
  | .hbm, ⟨3, _⟩ => ⟨S1024, .f32⟩
  | .hbm, ⟨4, _⟩ => ⟨S1024, .f32⟩
  | .hbm, ⟨5, _⟩ => ⟨S98304x1024, .f32⟩
  | .hbm, ⟨6, _⟩ => ⟨S197632x1024, .f32⟩
  | .hbm, ⟨7, _⟩ => ⟨S98304x1024, .f32⟩
  | .hbm, ⟨8, _⟩ => ⟨S98304x1024, .f32⟩
  | .hbm, ⟨9, _⟩ => ⟨S98304x1, .f32⟩
  | .hbm, ⟨10, _⟩ => ⟨S98304x1, .f32⟩
  | .hbm, ⟨11, _⟩ => ⟨S_, .f32⟩
  | .hbm, ⟨12, _⟩ => ⟨S98304x1024, .f32⟩
  | .hbm, ⟨13, _⟩ => ⟨S98304x1024, .f32⟩
  | .hbm, ⟨14, _⟩ => ⟨S98304x1024, .f32⟩
  | .hbm, ⟨15, _⟩ => ⟨S98304x1024, .f32⟩
  | .hbm, ⟨16, _⟩ => ⟨S98304x1024, .f32⟩
  | .hbm, ⟨17, _⟩ => ⟨S98304x1024, .f32⟩
  | .hbm, ⟨18, _⟩ => ⟨S98304x1024, .f32⟩
  | .hbm, ⟨19, _⟩ => ⟨S98304x1024, .f32⟩
  | .hbm, ⟨20, _⟩ => ⟨S_, .f32⟩
  | .hbm, ⟨21, _⟩ => ⟨S98304, .f32⟩
  | .hbm, ⟨22, _⟩ => ⟨S98304x1, .f32⟩
  | .hbm, ⟨23, _⟩ => ⟨S_, .f32⟩
  | .hbm, ⟨24, _⟩ => ⟨S98304x1, .f32⟩
  | .hbm, ⟨25, _⟩ => ⟨S98304x1, .f32⟩
  | .hbm, ⟨26, _⟩ => ⟨S98304x1024, .f32⟩
  | .hbm, ⟨27, _⟩ => ⟨S98304x1024, .f32⟩
  | .hbm, ⟨28, _⟩ => ⟨S98304x1024, .f32⟩
  | .hbm, ⟨29, _⟩ => ⟨S_, .f32⟩
  | .hbm, ⟨30, _⟩ => ⟨S98304, .f32⟩
  | .hbm, ⟨31, _⟩ => ⟨S98304x1, .f32⟩
  | .hbm, ⟨32, _⟩ => ⟨S_, .f32⟩
  | .hbm, ⟨33, _⟩ => ⟨S98304x1, .f32⟩
  | .hbm, ⟨34, _⟩ => ⟨S98304x1, .f32⟩
  | .hbm, ⟨35, _⟩ => ⟨S98304x1024, .f32⟩
  | .hbm, ⟨36, _⟩ => ⟨S98304x1024, .f32⟩
  | .hbm, ⟨37, _⟩ => ⟨S_, .f32⟩
  | .hbm, ⟨38, _⟩ => ⟨S98304x1, .f32⟩
  | .hbm, ⟨39, _⟩ => ⟨S98304x1, .f32⟩
  | .hbm, ⟨40, _⟩ => ⟨S98304x1, .f32⟩
  | .hbm, ⟨41, _⟩ => ⟨S98304x1024, .f32⟩
  | .hbm, ⟨42, _⟩ => ⟨S98304x1024, .f32⟩
  | .hbm, ⟨43, _⟩ => ⟨S1x1024, .f32⟩
  | .hbm, ⟨44, _⟩ => ⟨S98304x1024, .f32⟩
  | .hbm, ⟨45, _⟩ => ⟨S98304x1024, .f32⟩
  | .hbm, ⟨46, _⟩ => ⟨S1x1024, .f32⟩
  | .hbm, ⟨47, _⟩ => ⟨S98304x1024, .f32⟩
  | .hbm, ⟨48, _⟩ => ⟨S98304x1024, .f32⟩
  | .hbm, ⟨49, _⟩ => ⟨S65536x1024, .f32⟩
  | _, _ => ⟨S786432x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel5.lean ====
abbrev S16x2048x1024 : Shape := ⟨3, ![16, 2048, 1024]⟩
abbrev S32x2048x1024 : Shape := ⟨3, ![32, 2048, 1024]⟩
abbrev S1024x7168 : Shape := ⟨2, ![1024, 7168]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S1x2048x4x32 : Shape := ⟨4, ![1, 2048, 4, 32]⟩
abbrev S2048x128 : Shape := ⟨2, ![2048, 128]⟩
abbrev S128 : Shape := ⟨1, ![128]⟩
abbrev S1x128 : Shape := ⟨2, ![1, 128]⟩
abbrev S32768x1024 : Shape := ⟨2, ![32768, 1024]⟩
abbrev S65536x1024 : Shape := ⟨2, ![65536, 1024]⟩
abbrev S98304x1024 : Shape := ⟨2, ![98304, 1024]⟩
abbrev S98304x3072 : Shape := ⟨2, ![98304, 3072]⟩
abbrev S98304x4096 : Shape := ⟨2, ![98304, 4096]⟩
abbrev S512x1024 : Shape := ⟨2, ![512, 1024]⟩
abbrev S512x128 : Shape := ⟨2, ![512, 128]⟩
abbrev S512x3072 : Shape := ⟨2, ![512, 3072]⟩
abbrev S512x4096 : Shape := ⟨2, ![512, 4096]⟩
abbrev S1024x512 : Shape := ⟨2, ![1024, 512]⟩
abbrev S512x512 : Shape := ⟨2, ![512, 512]⟩

abbrev nBuf : Space → Nat
  | .hbm => 66
  | .vmem => 15
  | .smem => 0
  | _ => 0

abbrev bufTy : (tb : Table) → Fin (tcTables nBuf tb) → BufTy
  | .hbm, ⟨0, _⟩ => ⟨S16x2048x1024, .f32⟩
  | .hbm, ⟨1, _⟩ => ⟨S32x2048x1024, .f32⟩
  | .hbm, ⟨2, _⟩ => ⟨S1024x7168, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S2048, .f32⟩
  | .hbm, ⟨12, _⟩ => ⟨S2048x1, .f32⟩
  | .hbm, ⟨13, _⟩ => ⟨S1x32, .f32⟩
  | .hbm, ⟨14, _⟩ => ⟨S2048x32, .f32⟩
  | .hbm, ⟨15, _⟩ => ⟨S2048x32, .f32⟩
  | .hbm, ⟨16, _⟩ => ⟨S2048x32, .f32⟩
  | .hbm, ⟨17, _⟩ => ⟨S2048x32, .f32⟩
  | .hbm, ⟨18, _⟩ => ⟨S1x2048x1x32, .f32⟩
  | .hbm, ⟨19, _⟩ => ⟨S1x2048x4x32, .f32⟩
  | .hbm, ⟨20, _⟩ => ⟨S2048x128, .f32⟩
  | .hbm, ⟨21, _⟩ => ⟨S2048x32, .f32⟩
  | .hbm, ⟨22, _⟩ => ⟨S1x2048x1x32, .f32⟩
  | .hbm, ⟨23, _⟩ => ⟨S1x2048x4x32, .f32⟩
  | .hbm, ⟨24, _⟩ => ⟨S2048x128, .f32⟩
  | .hbm, ⟨25, _⟩ => ⟨S128, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S_, .i32⟩
  | .hbm, ⟨38, _⟩ => ⟨S128, .i32⟩
  | .hbm, ⟨39, _⟩ => ⟨S128, .i1⟩
  | .hbm, ⟨40, _⟩ => ⟨S_, .i32⟩
  | .hbm, ⟨41, _⟩ => ⟨S_, .i1⟩
  | .hbm, ⟨42, _⟩ => ⟨S128, .i1⟩
  | .hbm, ⟨43, _⟩ => ⟨S128, .i1⟩
  | .hbm, ⟨44, _⟩ => ⟨S128, .i1⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S128, .f32⟩
  | .hbm, ⟨57, _⟩ => ⟨S1x128, .f32⟩
  | .hbm, ⟨58, _⟩ => ⟨S2048x128, .f32⟩
  | .hbm, ⟨59, _⟩ => ⟨S2048x128, .f32⟩
  | .hbm, ⟨60, _⟩ => ⟨S32768x1024, .f32⟩
  | .hbm, ⟨61, _⟩ => ⟨S65536x1024, .f32⟩
  | .hbm, ⟨62, _⟩ => ⟨S1024x7168, .bf16⟩
  | .hbm, ⟨63, _⟩ => ⟨S98304x1024, .f32⟩
  | .hbm, ⟨64, _⟩ => ⟨S98304x3072, .bf16⟩
  | .hbm, ⟨65, _⟩ => ⟨S98304x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x7168, .bf16⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x1024, .f32⟩
  | .local _ .vmem, ⟨10, _⟩ => ⟨S512x1024, .f32⟩
  | .local _ .vmem, ⟨11, _⟩ => ⟨S512x3072, .bf16⟩
  | .local _ .vmem, ⟨12, _⟩ => ⟨S512x3072, .bf16⟩
  | .local _ .vmem, ⟨13, _⟩ => ⟨S512x4096, .bf16⟩
  | .local _ .vmem, ⟨14, _⟩ => ⟨S512x4096, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_call0_c : Ref sig .tc := ⟨.hbm, 28, rfl⟩
abbrev main_call0_v1 : Ref sig .tc := ⟨.hbm, 29, rfl⟩
abbrev main_call0_c_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_c_1 : Ref sig .tc := ⟨.hbm, 34, rfl⟩
abbrev main_call0_v5 : Ref sig .tc := ⟨.hbm, 35, rfl⟩
abbrev main_call0_v6 : Ref sig .tc := ⟨.hbm, 36, rfl⟩
abbrev main_call0_c_2 : Ref sig .tc := ⟨.hbm, 37, rfl⟩
abbrev main_call0_v7 : Ref sig .tc := ⟨.hbm, 38, rfl⟩
abbrev main_call0_v8 : Ref sig .tc := ⟨.hbm, 39, rfl⟩
abbrev main_call0_c_3 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_v12 : Ref sig .tc := ⟨.hbm, 44, rfl⟩
abbrev main_call0_v13 : Ref sig .tc := ⟨.hbm, 45, rfl⟩
abbrev main_call0_v14 : Ref sig .tc := ⟨.hbm, 46, rfl⟩
abbrev main_v21 : Ref sig .tc := ⟨.hbm, 47, rfl⟩
abbrev main_c_1 : Ref sig .tc := ⟨.hbm, 48, rfl⟩
abbrev main_v22 : Ref sig .tc := ⟨.hbm, 49, rfl⟩
abbrev main_v23 : Ref sig .tc := ⟨.hbm, 50, rfl⟩
abbrev main_cst_2 : Ref sig .tc := ⟨.hbm, 51, rfl⟩
abbrev main_cst_3 : Ref sig .tc := ⟨.hbm, 52, rfl⟩
abbrev main_call1_v0 : Ref sig .tc := ⟨.hbm, 53, rfl⟩
abbrev main_call1_v1 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32_0 : Ref sig .tc := ⟨.hbm, 63, rfl⟩
abbrev main_v32_1 : Ref sig .tc := ⟨.hbm, 64, rfl⟩
abbrev main_v32_2 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.subi arg0 c64_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel5Ideal.lean ====
variable {F : FTy → Type} [FloatOps F] [Named F]
def κ : String → Option EReal := fun
  | "scale" => some (((1 / 8) * (Real.log 2)⁻¹ : ℝ) : EReal)
  | _ => none
-- ==== Reference5Ideal.lean ====
abbrev S16x2048x1024 : Shape := ⟨3, ![16, 2048, 1024]⟩
abbrev S32x2048x1024 : Shape := ⟨3, ![32, 2048, 1024]⟩
abbrev S1024x7168 : Shape := ⟨2, ![1024, 7168]⟩
abbrev S48x2048x1024 : Shape := ⟨3, ![48, 2048, 1024]⟩
abbrev S98304x1024 : Shape := ⟨2, ![98304, 1024]⟩
abbrev S98304x7168 : Shape := ⟨2, ![98304, 7168]⟩
abbrev S98304x4096 : Shape := ⟨2, ![98304, 4096]⟩
abbrev S48x2048x8x2x64 : Shape := ⟨5, ![48, 2048, 8, 2, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x1x64 : Shape := ⟨5, ![1, 2048, 1, 1, 64]⟩
abbrev S48x2048x8x2x32 : Shape := ⟨5, ![48, 2048, 8, 2, 32]⟩
abbrev S98304x3072 : Shape := ⟨2, ![98304, 3072]⟩

abbrev nBuf : Space → Nat
  | .hbm => 77
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S32x2048x1024, .f32⟩
  | .hbm, ⟨2, _⟩ => ⟨S1024x7168, .f32⟩
  | .hbm, ⟨3, _⟩ => ⟨S48x2048x1024, .f32⟩
  | .hbm, ⟨4, _⟩ => ⟨S98304x1024, .f32⟩
  | .hbm, ⟨5, _⟩ => ⟨S98304x7168, .f32⟩
  | .hbm, ⟨6, _⟩ => ⟨S98304x1024, .f32⟩
  | .hbm, ⟨7, _⟩ => ⟨S98304x1024, .f32⟩
  | .hbm, ⟨8, _⟩ => ⟨S98304x1024, .f32⟩
  | .hbm, ⟨9, _⟩ => ⟨S98304x4096, .f32⟩
  | .hbm, ⟨10, _⟩ => ⟨S48x2048x8x2x64, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S2048, .f32⟩
  | .hbm, ⟨20, _⟩ => ⟨S2048x1, .f32⟩
  | .hbm, ⟨21, _⟩ => ⟨S1x32, .f32⟩
  | .hbm, ⟨22, _⟩ => ⟨S2048x32, .f32⟩
  | .hbm, ⟨23, _⟩ => ⟨S2048x32, .f32⟩
  | .hbm, ⟨24, _⟩ => ⟨S2048x32, .f32⟩
  | .hbm, ⟨25, _⟩ => ⟨S2048x64, .f32⟩
  | .hbm, ⟨26, _⟩ => ⟨S1x2048x1x1x64, .f32⟩
  | .hbm, ⟨27, _⟩ => ⟨S48x2048x8x2x32, .f32⟩
  | .hbm, ⟨28, _⟩ => ⟨S48x2048x8x2x32, .f32⟩
  | .hbm, ⟨29, _⟩ => ⟨S48x2048x8x2x32, .f32⟩
  | .hbm, ⟨30, _⟩ => ⟨S48x2048x8x2x64, .f32⟩
  | .hbm, ⟨31, _⟩ => ⟨S1x2048x1x1x64, .f32⟩
  | .hbm, ⟨32, _⟩ => ⟨S48x2048x8x2x64, .f32⟩
  | .hbm, ⟨33, _⟩ => ⟨S48x2048x8x2x64, .f32⟩
  | .hbm, ⟨34, _⟩ => ⟨S1x2048x1x1x64, .f32⟩
  | .hbm, ⟨35, _⟩ => ⟨S48x2048x8x2x64, .f32⟩
  | .hbm, ⟨36, _⟩ => ⟨S48x2048x8x2x64, .f32⟩
  | .hbm, ⟨37, _⟩ => ⟨S48x2048x8x2x64, .f32⟩
  | .hbm, ⟨38, _⟩ => ⟨S98304x1024, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S98304x1024, .f32⟩
  | .hbm, ⟨44, _⟩ => ⟨S98304x1024, .f32⟩
  | .hbm, ⟨45, _⟩ => ⟨S48x2048x8x2x64, .f32⟩
  | .hbm, ⟨46, _⟩ => ⟨S32, .f32⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S2048, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x64, .f32⟩
  | .hbm, ⟨61, _⟩ => ⟨S1x2048x1x1x64, .f32⟩
  | .hbm, ⟨62, _⟩ => ⟨S48x2048x8x2x32, .f32⟩
  | .hbm, ⟨63, _⟩ => ⟨S48x2048x8x2x32, .f32⟩
  | .hbm, ⟨64, _⟩ => ⟨S48x2048x8x2x32, .f32⟩
  | .hbm, ⟨65, _⟩ => ⟨S48x2048x8x2x64, .f32⟩
  | .hbm, ⟨66, _⟩ => ⟨S1x2048x1x1x64, .f32⟩
  | .hbm, ⟨67, _⟩ => ⟨S48x2048x8x2x64, .f32⟩
  | .hbm, ⟨68, _⟩ => ⟨S48x2048x8x2x64, .f32⟩
  | .hbm, ⟨69, _⟩ => ⟨S1x2048x1x1x64, .f32⟩
  | .hbm, ⟨70, _⟩ => ⟨S48x2048x8x2x64, .f32⟩
  | .hbm, ⟨71, _⟩ => ⟨S48x2048x8x2x64, .f32⟩
  | .hbm, ⟨72, _⟩ => ⟨S48x2048x8x2x64, .f32⟩
  | .hbm, ⟨73, _⟩ => ⟨S98304x1024, .f32⟩
  | .hbm, ⟨74, _⟩ => ⟨S98304x3072, .f32⟩
  | .hbm, ⟨75, _⟩ => ⟨S98304x3072, .bf16⟩
  | .hbm, ⟨76, _⟩ => ⟨S98304x4096, .bf16⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩

abbrev nD : Nat := 1
abbrev τ : Topo := Topo.v7x

variable {F : FTy → Type} [FloatOps F]
-- ==== Proof.Attn.Math.lean ====
/-
  The mathematics of one row of the differential attention, over extended reals: the kernel's spelling (unnormalised
  weights in base 2, their sum taken as a product with ones, the two maps' outputs subtracted) and the reference's
  (softmax in base e of the scores times log 2, the two maps subtracted before the product with the values) agree on
  finite scores and values.
-/
module

public import Idealize.ShloMosaic.Lib.Pointwise

@[expose] public section

noncomputable section

namespace Cert.Attn

open Idealize.ShloMosaic

/-- The logarithm of 2, as the reference computes it. -/
def ln2 : EReal := Ideal.log (Ideal.ofBits .f32 0x40000000#32)

theorem ln2_eq : ln2 = ((Real.log 2 : ℝ) : EReal) := by
  have h : Ideal.ofBits .f32 0x40000000#32 = ((2 : ℝ) : EReal) := by
    simp [Ideal.ofBits, Ideal.ieee, -EReal.coe_mul]; norm_num
  rw [ln2, h, Ideal.log_coe, if_neg (by norm_num)]

theorem ofBits_bot : Ideal.ofBits .f32 0xFF800000#32 = ⊥ := by simp [Ideal.ofBits, Ideal.ieee]

/-- The weight of the second map. -/
def lamOf (a b c d : Fin 64 → EReal) (l : EReal) : EReal :=
  Ideal.exp (∑ x, a x * b x) - Ideal.exp (∑ x, c x * d x) + l

variable {n : ℕ}

/-- The greatest entry of a row. -/
def top (s : Fin n → EReal) : EReal := Finset.univ.fold max ⊥ s

/-- The kernel's unnormalised weights. -/
def weight (s : Fin n → EReal) (k : Fin n) : EReal := Ideal.exp2 (s k - top s)

/-- The kernel's output of one map. -/
def kmap (s v : Fin n → EReal) : EReal := Ideal.div (∑ k, weight s k * v k) (∑ k, weight s k * 1)

/-- The kernel's differential output. -/
def kdiff (lam : EReal) (s0 s1 v : Fin n → EReal) : EReal := kmap s0 v - lam * kmap s1 v

/-- The reference's unnormalised weights. -/
def rweight (s : Fin n → EReal) (k : Fin n) : EReal := Ideal.exp (s k * ln2 - max ⊥ (top fun k => s k * ln2))

/-- The reference's softmax. -/
def rsoft (s : Fin n → EReal) (k : Fin n) : EReal := Ideal.div (rweight s k) (∑ j, rweight s j)

/-- The reference's differential output. -/
def rdiff (lam : EReal) (s0 s1 v : Fin n → EReal) : EReal := ∑ k, v k * (rsoft s0 k - lam * rsoft s1 k)

theorem coe_sum (f : Fin n → ℝ) : ((∑ k, f k : ℝ) : EReal) = ∑ k, ((f k : ℝ) : EReal) := by
  classical
  induction (Finset.univ : Finset (Fin n)) using Finset.induction_on with
  | empty => simp
  | insert a s ha ih => rw [Finset.sum_insert ha, Finset.sum_insert ha, EReal.coe_add, ih]

/-- It is a real number when its arguments are. -/
theorem lamOf_coe (a b c d : Fin 64 → EReal) (l : EReal) (ha : ∀ i, ∃ r : ℝ, a i = r) (hb : ∀ i, ∃ r : ℝ, b i = r)
    (hc : ∀ i, ∃ r : ℝ, c i = r) (hd : ∀ i, ∃ r : ℝ, d i = r) (hl : ∃ r : ℝ, l = r) : ∃ r : ℝ, lamOf a b c d l = r := by
  choose a' ha using ha
  choose b' hb using hb
  choose c' hc using hc
  choose d' hd using hd
  obtain ⟨l', rfl⟩ := hl
  refine ⟨Real.exp (∑ x, a' x * b' x) - Real.exp (∑ x, c' x * d' x) + l', ?_⟩
  simp only [lamOf, ha, hb, hc, hd, ← EReal.coe_mul, ← coe_sum, Ideal.exp_coe, ← EReal.coe_sub, ← EReal.coe_add]

/-- The greatest entry of a row of reals is one of them. -/
theorem exists_top [NeZero n] (σ : Fin n → ℝ) : ∃ m, (∀ k, σ k ≤ σ m) ∧ top (fun k => (σ k : EReal)) = σ m := by
  obtain ⟨m, -, hm⟩ := Finset.exists_max_image Finset.univ σ ⟨0, Finset.mem_univ _⟩
  refine ⟨m, fun k => hm k (Finset.mem_univ _), ?_⟩
  have e : top (fun k => (σ k : EReal)) = Finset.univ.sup fun k => (σ k : EReal) := rfl
  rw [e]
  exact le_antisymm (Finset.sup_le fun k _ => EReal.coe_le_coe_iff.2 (hm k (Finset.mem_univ _)))
    (Finset.le_sup (f := fun k => (σ k : EReal)) (Finset.mem_univ m))

/-- The weights of a row of reals are positive reals, the same in the two spellings. -/
theorem exists_weight [NeZero n] (σ : Fin n → ℝ) : ∃ w : Fin n → ℝ, (∀ k, 0 < w k) ∧
    (∀ k, weight (fun k => (σ k : EReal)) k = w k) ∧ ∀ k, rweight (fun k => (σ k : EReal)) k = w k := by
  obtain ⟨m, hm, e⟩ := exists_top σ
  have hL : 0 < Real.log 2 := Real.log_pos (by norm_num)
  have e' : top (fun k => (σ k : EReal) * ln2) = ((σ m * Real.log 2 : ℝ) : EReal) := by
    obtain ⟨m', hm', e2⟩ := exists_top fun k => σ k * Real.log 2
    have : (fun k => (σ k : EReal) * ln2) = fun k => ((σ k * Real.log 2 : ℝ) : EReal) := by
      funext k; rw [ln2_eq, EReal.coe_mul]
    rw [this, e2, EReal.coe_eq_coe_iff]
    exact le_antisymm (mul_le_mul_of_nonneg_right (hm m') hL.le) (hm' m)
  refine ⟨fun k => Real.exp ((σ k - σ m) * Real.log 2), fun k => Real.exp_pos _, fun k => ?_, fun k => ?_⟩
  · rw [weight, e, ← EReal.coe_sub, Ideal.exp2_coe, EReal.coe_eq_coe_iff]
    show (2 : ℝ) ^ (σ k - σ m) = _
    rw [Real.rpow_def_of_pos (by norm_num), mul_comm]
  · rw [rweight, e', max_eq_right bot_le, ln2_eq, ← EReal.coe_mul, ← EReal.coe_sub, Ideal.exp_coe, ← sub_mul]

theorem kmap_coe [NeZero n] (w ν : Fin n → ℝ) (hw : ∀ k, 0 < w k) (s v : Fin n → EReal)
    (hs : ∀ k, weight s k = w k) (hv : ∀ k, v k = ν k) :
    kmap s v = (((∑ k, w k * ν k) / ∑ k, w k : ℝ) : EReal) := by
  have hpos : 0 < ∑ k, w k := Finset.sum_pos (fun k _ => hw k) ⟨0, Finset.mem_univ _⟩
  rw [kmap]
  simp only [hs, hv, mul_one, ← EReal.coe_mul]
  rw [← coe_sum, ← coe_sum, Ideal.div_coe hpos.ne', ← EReal.coe_mul, ← div_eq_mul_one_div]

theorem rsoft_coe [NeZero n] (w : Fin n → ℝ) (hw : ∀ k, 0 < w k) (s : Fin n → EReal)
    (hs : ∀ k, rweight s k = w k) (k : Fin n) : rsoft s k = ((w k / ∑ k, w k : ℝ) : EReal) := by
  have hpos : 0 < ∑ k, w k := Finset.sum_pos (fun k _ => hw k) ⟨0, Finset.mem_univ _⟩
  rw [rsoft]
  simp only [hs]
  rw [← coe_sum, Ideal.div_coe hpos.ne', ← EReal.coe_mul, ← div_eq_mul_one_div]

/-- The two spellings of the differential output agree on finite scores, values and weight. -/
theorem kdiff_eq_rdiff [NeZero n] (lam : EReal) (s0 s1 v : Fin n → EReal) (hl : ∃ r : ℝ, lam = r)
    (h0 : ∀ k, ∃ r : ℝ, s0 k = r) (h1 : ∀ k, ∃ r : ℝ, s1 k = r) (hv : ∀ k, ∃ r : ℝ, v k = r) :
    kdiff lam s0 s1 v = rdiff lam s0 s1 v := by
  obtain ⟨l, rfl⟩ := hl
  choose σ0 h0 using h0
  choose σ1 h1 using h1
  choose ν hv using hv
  obtain rfl : s0 = fun k => (σ0 k : EReal) := funext h0
  obtain rfl : s1 = fun k => (σ1 k : EReal) := funext h1
  obtain ⟨w0, p0, k0, r0⟩ := exists_weight σ0
  obtain ⟨w1, p1, k1, r1⟩ := exists_weight σ1
  rw [kdiff, rdiff, kmap_coe w0 ν p0 _ _ k0 hv, kmap_coe w1 ν p1 _ _ k1 hv]
  simp only [rsoft_coe w0 p0 _ r0, rsoft_coe w1 p1 _ r1, hv, ← EReal.coe_mul, ← EReal.coe_sub]
  rw [← coe_sum, EReal.coe_eq_coe_iff, Finset.sum_div, Finset.sum_div, Finset.mul_sum, ← Finset.sum_sub_distrib]
  exact Finset.sum_congr rfl fun k _ => by ring

/-- The scores of a row of queries in the two halves of a head. -/
def score (c : Fin 2) (q : Fin 128 → EReal) (K : Fin 2048 → Fin 128 → EReal) (k : Fin 2048) : EReal :=
  ∑ d : Fin 64, q ⟨64 * c + d, by omega⟩ * K k ⟨64 * c + d, by omega⟩

/-- A row's norm. -/
def rownorm (o : Fin 128 → EReal) (e : Fin 128) : EReal :=
  o e * Ideal.rsqrt (Ideal.div (∑ x, o x * o x) (Ideal.ofBits FTy.f32 0x43000000#32) + Ideal.ofBits FTy.f32 0x3727C5AC#32)

/-- An output of the kernel, from its row of queries and its head's keys and values. -/
def krow (lam sc : EReal) (g q : Fin 128 → EReal) (K V : Fin 2048 → Fin 128 → EReal) (e : Fin 128) : EReal :=
  rownorm (fun e => kdiff lam (score 0 q K) (score 1 q K) fun k => V k e) e * (g e * sc)

/-- An output of the reference, from its row of queries and its head's keys and values. -/
def rrow (lam sc : EReal) (g q : Fin 128 → EReal) (K V : Fin 2048 → Fin 128 → EReal) (e : Fin 128) : EReal :=
  rownorm (fun e => rdiff lam (score 0 q K) (score 1 q K) fun k => V k e) e * g e * sc

theorem score_coe (c : Fin 2) (q : Fin 128 → EReal) (K : Fin 2048 → Fin 128 → EReal) (hq : ∀ d, ∃ r : ℝ, q d = r)
    (hK : ∀ k d, ∃ r : ℝ, K k d = r) (k : Fin 2048) : ∃ r : ℝ, score c q K k = r := by
  choose q' hq using hq
  choose K' hK using hK
  refine ⟨∑ d : Fin 64, q' ⟨64 * c + d, by omega⟩ * K' k ⟨64 * c + d, by omega⟩, ?_⟩
  rw [score, coe_sum]
  exact Finset.sum_congr rfl fun d _ => by rw [hq, hK, EReal.coe_mul]

/-- On finite queries, keys, values and weight the two outputs agree. -/
theorem krow_eq_rrow (lam sc : EReal) (g q : Fin 128 → EReal) (K V : Fin 2048 → Fin 128 → EReal) (e : Fin 128)
    (hl : ∃ r : ℝ, lam = r) (hq : ∀ d, ∃ r : ℝ, q d = r) (hK : ∀ k d, ∃ r : ℝ, K k d = r) (hV : ∀ k d, ∃ r : ℝ, V k d = r) :
    krow lam sc g q K V e = rrow lam sc g q K V e := by
  rw [krow, rrow, mul_assoc]
  congr 2
  funext e
  exact kdiff_eq_rdiff lam _ _ _ hl (score_coe 0 q K hq hK) (score_coe 1 q K hq hK) fun k => hV k e

end Cert.Attn

end
-- ==== Proof.Attn.Tile.lean ====
module

public import proofs.«01_k».proof.Proof.Gen.KernelIdeal.Skeleton
public import proofs.«01_k».proof.Proof.Attn.Math

@[expose] public section

noncomputable section

namespace Cert.KernelIdeal.Attn

open Cert.Attn Cert.KernelIdeal Cert.KernelIdeal.Gen Idealize.ShloMosaic Idealize.SL.Sem

section Defs
variable {F : FTy → Type} [FloatOps F]

/-- The lanes of the first half of a head: the kernel's mask. -/
def firstHalf : IVec S128x128 1 := cmpi .slt (iota .tc S128x128 32 [1] iota_S128x128_d1_w32) (broadcast S128x128 64#32)

/-- A tile of zeros. -/
def zeroTile : FVec F S128x128 .bf16 := broadcast S128x128 (Scalar.ofBits .bf16 0x0000#16)

/-- The scores of a tile of queries. -/
def scores (K : FVec F S2048x128 .bf16) (q : FVec F S128x128 .bf16) : FVec F S128x2048 .f32 :=
  matmul dot_S128x128_S2048x128_S128x2048_1_1_0_0_n_n none q K (constant S128x2048 .f32 0x00000000#32)

/-- The unnormalised weights times the widened values. -/
def sums (W : FVec F S2048x256 .bf16) (s : FVec F S128x2048 .f32) : FVec F S128x256 .f32 :=
  matmul dot_S128x2048_S2048x256_S128x256_1_0_0_1_n_n none
    (truncf .bf16 (exp2 (subf s (broadcastTo S128x2048
      (shapeCast S128x1 (multiReduction .maximumf [1] S128 s 0xFF800000#32 reduces_S128x2048_S128 (.inl rfl) rfl) shapeCasts_S128_S128x1)
      broadcasts_S128x1_S128x2048))) bitsLt_bf16_f32)
    W (constant S128x256 .f32 0x00000000#32)

/-- The left half of the sums over the right half. -/
def ratio (u : FVec F S128x256 .f32) : FVec F S128x128 .f32 :=
  divf (extractStridedSlice S128x128 ![0, 0] u slices_S128x256_o0_0_S128x128)
    (extractStridedSlice S128x128 ![0, 128] u slices_S128x256_o0_128_S128x128)

/-- The differential output of a tile, before its norm. -/
def diff (lam : F .f32) (K : FVec F S2048x128 .bf16) (W : FVec F S2048x256 .bf16) (q : FVec F S128x128 .bf16) :
    FVec F S128x128 .f32 :=
  subf (ratio (sums W (scores K (select firstHalf q zeroTile))))
    (mulf (broadcast S128x128 lam) (ratio (sums W (scores K (select firstHalf zeroTile q)))))

/-- The norm of a tile's rows and the gain. -/
def normed (g : FVec F S1x128 .f32) (o : FVec F S128x128 .f32) : FVec F S128x128 .bf16 :=
  truncf .bf16 (mulf (mulf o (broadcastTo S128x128
      (rsqrt (addf (divf (shapeCast S128x1 (multiReduction .add [1] S128 (mulf o o) 0x00000000#32 reduces_S128x128_S128 (.inl rfl) rfl)
        shapeCasts_S128_S128x1) (broadcast S128x1 (Scalar.ofBits .f32 0x43000000#32)))
        (broadcast S128x1 (Scalar.ofBits .f32 0x3727C5AC#32)))) broadcasts_S128x1_S128x128))
    (broadcastTo S128x128 g broadcasts_S1x128_S128x128)) bitsLt_bf16_f32

end Defs

set_option maxRecDepth 16384

theorem scores_apply (K : FVec Ideal S2048x128 .bf16) (q : FVec Ideal S128x128 .bf16) (r : Fin 128) (k : Fin 2048) :
    scores K q (ix2 r k) = ∑ d : Fin 128, q (ix2 r d) * K (ix2 k d) := by
  pointwise [scores]

theorem sums_apply (W : FVec Ideal S2048x256 .bf16) (s : FVec Ideal S128x2048 .f32) (r : Fin 128) (e : Fin 256) :
    sums W s (ix2 r e) = ∑ k : Fin 2048, weight (fun k => s (ix2 r k)) k * W (ix2 k e) := by
  pointwise [sums]
  rw [ofBits_bot]
  rfl

theorem ratio_apply (u : FVec Ideal S128x256 .f32) (r : Fin 128) (e : Fin 128) :
    ratio u (ix2 r e) = Ideal.div (u (ix2 r ⟨e, by omega⟩)) (u (ix2 r ⟨128 + e, by omega⟩)) := by
  pointwise [ratio]

theorem lane_lt : ∀ d : Fin 128, IntOp.cmpi CmpIPredicate.slt (BitVec.ofNat 32 d.val) 64#32 = if d.val < 64 then 1#1 else 0#1 := by
  decide

theorem first_apply (q : FVec Ideal S128x128 .bf16) (r : Fin 128) (d : Fin 128) :
    select firstHalf q zeroTile (ix2 r d) = if d.val < 64 then q (ix2 r d) else 0 := by
  pointwise [firstHalf, zeroTile]
  rw [lane_lt]
  split <;> rfl

theorem second_apply (q : FVec Ideal S128x128 .bf16) (r : Fin 128) (d : Fin 128) :
    select firstHalf zeroTile q (ix2 r d) = if d.val < 64 then 0 else q (ix2 r d) := by
  pointwise [firstHalf, zeroTile]
  rw [lane_lt]
  split <;> rfl

theorem sum_first (f : Fin 128 → EReal) : (∑ d, if d.val < 64 then f d else 0) = ∑ d : Fin 64, f ⟨d, by omega⟩ := by
  rw [Fin.sum_univ_two_halves 64 64 rfl]
  simp

theorem sum_second (f : Fin 128 → EReal) : (∑ d, if d.val < 64 then 0 else f d) = ∑ d : Fin 64, f ⟨64 + d, by omega⟩ := by
  rw [Fin.sum_univ_two_halves 64 64 rfl]
  simp

theorem score0_apply (K : FVec Ideal S2048x128 .bf16) (q : FVec Ideal S128x128 .bf16) (r : Fin 128) (k : Fin 2048) :
    scores K (select firstHalf q zeroTile) (ix2 r k) = score 0 (fun d => q (ix2 r d)) (fun k d => K (ix2 k d)) k := by
  rw [scores_apply]
  simp only [first_apply, ite_mul, zero_mul]
  rw [sum_first fun d => q (ix2 r d) * K (ix2 k d)]
  simp [score]

theorem score1_apply (K : FVec Ideal S2048x128 .bf16) (q : FVec Ideal S128x128 .bf16) (r : Fin 128) (k : Fin 2048) :
    scores K (select firstHalf zeroTile q) (ix2 r k) = score 1 (fun d => q (ix2 r d)) (fun k d => K (ix2 k d)) k := by
  rw [scores_apply]
  simp only [second_apply, ite_mul, zero_mul]
  rw [sum_second fun d => q (ix2 r d) * K (ix2 k d)]
  simp [score]

/-- Where the widened values are the values and then ones, a tile's differential output. -/
theorem diff_apply (lam : EReal) (K : FVec Ideal S2048x128 .bf16) (W : FVec Ideal S2048x256 .bf16) (q : FVec Ideal S128x128 .bf16)
    (v : Fin 2048 → Fin 128 → EReal) (hv : ∀ k (e : Fin 128), W (ix2 k ⟨e, by omega⟩) = v k e)
    (h1 : ∀ k (e : Fin 128), W (ix2 k ⟨128 + e, by omega⟩) = 1) (r : Fin 128) (e : Fin 128) :
    diff (F := Ideal) lam K W q (ix2 r e) = kdiff lam (score 0 (fun d => q (ix2 r d)) (fun k d => K (ix2 k d)))
      (score 1 (fun d => q (ix2 r d)) (fun k d => K (ix2 k d))) (fun k => v k e) := by
  pointwise [diff]
  rw [ratio_apply, ratio_apply]
  simp only [sums_apply, score0_apply, score1_apply, hv, h1]
  rfl

theorem normed_apply (g : FVec Ideal S1x128 .f32) (o : FVec Ideal S128x128 .f32) (r : Fin 128) (e : Fin 128) :
    normed g o (ix2 r e) = rownorm (fun e => o (ix2 r e)) e * g (ix2 0 e) := by
  pointwise [normed]
  rfl

end Cert.KernelIdeal.Attn

end
-- ==== Proof.Attn.Block.lean ====
/-
  What one grid point leaves in its output block: every one of the 32 tiles it stores is one function of the block's
  coordinates.
-/
module

public import proofs.«01_k».proof.Proof.Attn.Tile
public import proofs.«01_k».proof.Proof.Gen.KernelIdeal.Frame
public import Idealize.ShloMosaic.Lib.Pipeline.ValueKit.Tiles

@[expose] public section

noncomputable section

namespace Cert.KernelIdeal.Attn

open Cert.Attn Cert.KernelIdeal Cert.KernelIdeal.Gen Idealize.ShloMosaic Idealize.ShloMosaic.TcCoe Idealize.SL.Sem

/-- The output block of a grid point, at a row, a head slot and a lane. -/
def blockAt (x0 : Vec Ideal S2 .f32) (x1 x2 x3 : Vec Ideal S2048x256 .bf16) (x4 : Vec Ideal S1x128 .f32)
    (r : Fin 2048) (h : Fin 2) (e : Fin 128) : EReal :=
  krow (x0 (ix1 0)) (x0 (ix1 1)) (fun e => x4 (ix2 0 e)) (fun d => x1 (ix2 r ⟨128 * h + d, by omega⟩))
    (fun k d => x2 (ix2 k ⟨128 * h + d, by omega⟩)) (fun k d => x3 (ix2 k ⟨128 * h + d, by omega⟩)) e

/-- The output block of a grid point. -/
def blockOut (x0 : Vec Ideal S2 .f32) (x1 x2 x3 : Vec Ideal S2048x256 .bf16) (x4 : Vec Ideal S1x128 .f32) :
    Vec Ideal S2048x256 .bf16 := fun y =>
  blockAt x0 x1 x2 x3 x4 (y 0) ⟨(y 1).val / 128, by have h : (y 1).val < 256 := (y 1).isLt; omega⟩ ⟨(y 1).val % 128, by omega⟩

set_option maxRecDepth 16384

/-- The first head slot of the widened values' buffer, once stored. -/
def wide0 (arg8 : Memref sig .tc .vmem S2x2048x256 .bf16) (X : Vec Ideal S2048x128 .bf16) : Vec Ideal S1x2048x256 .bf16 :=
  arg8.view.readCov
    [⟨Rect.unit ![0, 0, 128] ![1, 2048, 128] inb_S2x2048x256_S1x2048x128_0_0_128, k0_pay5 (F := Ideal)⟩,
      ⟨Rect.unit ![0, 0, 0] ![1, 2048, 128] inb_S2x2048x256_S1x2048x128_0_0_0, k0_pay4 X⟩]
    (Rect.unit ![0, 0, 0] ![1, 2048, 256] inb_S2x2048x256_S1x2048x256_0_0_0).toLoadRect

/-- The second head slot of the widened values' buffer, once stored. -/
def wide1 (arg8 : Memref sig .tc .vmem S2x2048x256 .bf16) (X X' : Vec Ideal S2048x128 .bf16) : Vec Ideal S1x2048x256 .bf16 :=
  arg8.view.readCov
    [⟨Rect.unit ![1, 0, 128] ![1, 2048, 128] inb_S2x2048x256_S1x2048x128_1_0_128, k0_pay71 (F := Ideal)⟩,
      ⟨Rect.unit ![1, 0, 0] ![1, 2048, 128] inb_S2x2048x256_S1x2048x128_1_0_0, k0_pay70 X'⟩,
      ⟨Rect.unit ![0, 0, 128] ![1, 2048, 128] inb_S2x2048x256_S1x2048x128_0_0_128, k0_pay5 (F := Ideal)⟩,
      ⟨Rect.unit ![0, 0, 0] ![1, 2048, 128] inb_S2x2048x256_S1x2048x128_0_0_0, k0_pay4 X⟩]
    (Rect.unit ![1, 0, 0] ![1, 2048, 256] inb_S2x2048x256_S1x2048x256_1_0_0).toLoadRect

/-- Under the last store of a unit-stride rectangle the contents are its payload; -/
theorem canon_hit {S : Shape} {e : EltTy} (off size : Fin S.rank → Nat) (inb : ∀ a, off a + size a ≤ S.size a)
    (w : (Rect.unit off size inb).shape.Idx → Elt Ideal e) (L : List (View.Piece (Elt Ideal) S e)) (y : S.Idx)
    (x : (Rect.unit off size inb).shape.Idx) (h : ∀ a, (y a : ℕ) = off a + x a) :
    View.canon (⟨Rect.unit off size inb, w⟩ :: L) y = w x := by
  obtain rfl : y = (Rect.unit off size inb).emb x := funext fun a => Fin.ext ((h a).trans (Rect.idx_unit_val off size inb x a).symm)
  exact View.canon_cons_emb _ w L x

/-- off it, those of the earlier stores. -/
theorem canon_miss {S : Shape} {e : EltTy} (off size : Fin S.rank → Nat) (inb : ∀ a, off a + size a ≤ S.size a)
    (w : (Rect.unit off size inb).shape.Idx → Elt Ideal e) (L : List (View.Piece (Elt Ideal) S e)) (y : S.Idx)
    (a : Fin S.rank) (h : (y a : ℕ) < off a ∨ off a + size a ≤ y a) :
    View.canon (⟨Rect.unit off size inb, w⟩ :: L) y = View.canon L y := by
  refine View.canon_cons_of_not_mem _ L fun hy => ?_
  obtain ⟨x, hx⟩ := (Rect.unit off size inb).exists_idx_of_mem hy
  have h1 : (y a : ℕ) = off a + x a := by rw [← hx]; exact Rect.idx_unit_val off size inb x a
  have h2 : (x a : ℕ) < size a := (x a).isLt
  omega

theorem wide0_apply (arg8 : Memref sig .tc .vmem S2x2048x256 .bf16) (X : Vec Ideal S2048x128 .bf16) (k : Fin 2048) :
    (∀ e : Fin 128, k0_pay6 (F := Ideal) (wide0 arg8 X) (ix2 k ⟨e, by omega⟩) = X (ix2 k e))
    ∧ ∀ e : Fin 128, k0_pay6 (F := Ideal) (wide0 arg8 X) (ix2 k ⟨128 + e, by omega⟩) = 1 := by
  constructor <;> intro e
  · pointwise [k0_pay6, wide0]
    rw [View.readCov_eq_canon']
    dsimp only
    refine (canon_miss _ _ _ _ _ _ 2 (.inl (by simp))).trans ((canon_hit _ _ _ _ _ _ (ix3 0 k e) fun a => ?_).trans ?_)
    · fin_cases a <;> simp
    · pointwise [k0_pay4]
  · pointwise [k0_pay6, wide0]
    rw [View.readCov_eq_canon']
    dsimp only
    refine (canon_hit _ _ _ _ _ _ (ix3 0 k e) fun a => ?_).trans ?_
    · fin_cases a <;> simp
    · pointwise [k0_pay5]

theorem wide1_apply (arg8 : Memref sig .tc .vmem S2x2048x256 .bf16) (X X' : Vec Ideal S2048x128 .bf16) (k : Fin 2048) :
    (∀ e : Fin 128, k0_pay6 (F := Ideal) (wide1 arg8 X X') (ix2 k ⟨e, by omega⟩) = X' (ix2 k e))
    ∧ ∀ e : Fin 128, k0_pay6 (F := Ideal) (wide1 arg8 X X') (ix2 k ⟨128 + e, by omega⟩) = 1 := by
  constructor <;> intro e
  · pointwise [k0_pay6, wide1]
    rw [View.readCov_eq_canon']
    dsimp only
    refine (canon_miss _ _ _ _ _ _ 2 (.inl (by simp))).trans ((canon_hit _ _ _ _ _ _ (ix3 0 k e) fun a => ?_).trans ?_)
    · fin_cases a <;> simp
    · pointwise [k0_pay70]
  · pointwise [k0_pay6, wide1]
    rw [View.readCov_eq_canon']
    dsimp only
    refine (canon_hit _ _ _ _ _ _ (ix3 0 k e) fun a => ?_).trans ?_
    · fin_cases a <;> simp
    · pointwise [k0_pay71]

/-- The gain the kernel multiplies by. -/
theorem gain_apply (sc : EReal) (g : Vec Ideal S1x128 .f32) (e : Fin 128) :
    k0_pay2 (F := Ideal) sc g (ix2 0 e) = g (ix2 0 e) * sc := by
  pointwise [k0_pay2]

/-- One stored tile is its part of the block. -/
theorem tile_eq (x0 : Vec Ideal S2 .f32) (x1 x2 x3 : Vec Ideal S2048x256 .bf16) (x4 : Vec Ideal S1x128 .f32)
    (lam sc : EReal) (g : Vec Ideal S1x128 .f32) (K : Vec Ideal S2048x128 .bf16) (W : FVec Ideal S2048x256 .bf16)
    (Q : Vec Ideal S128x128 .bf16) (y : S2048x256.Idx) (x : S128x128.Idx) (h : Fin 2)
    (h1 : (y 1).val = 128 * h + (x 1).val) (hlam : lam = x0 (ix1 0)) (hsc : sc = x0 (ix1 1))
    (hg : ∀ e, g (ix2 0 e) = x4 (ix2 0 e))
    (hQ : ∀ d : Fin 128, Q (ix2 (x 0) d) = x1 (ix2 (y 0) ⟨128 * h + d, by omega⟩))
    (hK : ∀ k (d : Fin 128), K (ix2 k d) = x2 (ix2 k ⟨128 * h + d, by omega⟩))
    (hv : ∀ k (e : Fin 128), W (ix2 k ⟨e, by omega⟩) = x3 (ix2 k ⟨128 * h + e, by omega⟩))
    (ho : ∀ k (e : Fin 128), W (ix2 k ⟨128 + e, by omega⟩) = 1) :
    normed (F := Ideal) (k0_pay2 sc g) (diff lam K W Q) x = blockOut x0 x1 x2 x3 x4 y := by
  obtain ⟨r, e, rfl⟩ : ∃ (r : Fin 128) (e : Fin 128), x = ix2 r e := ⟨x 0, x 1, eq_ix2 x⟩
  have h1' : (y 1).val = 128 * h + e.val := h1
  have e1 : (⟨(y 1).val / 128, by have h : (y 1).val < 256 := (y 1).isLt; omega⟩ : Fin 2) = h := Fin.ext (by show (y 1).val / 128 = h; omega)
  have e2 : (⟨(y 1).val % 128, by omega⟩ : Fin 128) = e := Fin.ext (by show (y 1).val % 128 = e.val; omega)
  have hQ' : ∀ d : Fin 128, Q (ix2 r d) = x1 (ix2 (y 0) ⟨128 * h + d, by omega⟩) := hQ
  unfold blockOut
  rw [e1, e2]
  unfold blockAt krow
  rw [normed_apply, gain_apply, hg, hsc]
  refine congrArg (fun o => rownorm o e * (x4 (ix2 0 e) * x0 (ix1 1))) (funext fun e => ?_)
  rw [diff_apply lam K W Q (fun k e => x3 (ix2 k ⟨128 * h + e, by omega⟩)) hv ho]
  simp only [hQ', hK, hlam]

/-- A tile of the first head slot, as the kernel stores it. -/
theorem tile0 (arg8 : Memref sig .tc .vmem S2x2048x256 .bf16) (x0 : Vec Ideal S2 .f32) (x1 x2 x3 : Vec Ideal S2048x256 .bf16)
    (x4 : Vec Ideal S1x128 .f32) (o : ℕ) (inb) (y : S2048x256.Idx) (x : S128x128.Idx)
    (h0 : (y 0).val = o + (x 0).val) (h1 : (y 1).val = (x 1).val) :
    normed (F := Ideal) (k0_pay2 (View.ld x0 (Rect.unit ![1] ![1] inb_S2_S1_1) (Shape.Idx.first (by decide)))
        (View.ld x4 (Rect.unit ![0, 0] ![1, 128] inb_S1x128_S1x128_0_0)))
      (diff (View.ld x0 (Rect.unit ![0] ![1] inb_S2_S1_0) (Shape.Idx.first (by decide)))
        (View.ld x2 (Rect.unit ![0, 0] ![2048, 128] inb_S2048x256_S2048x128_0_0))
        (k0_pay6 (wide0 arg8 (View.ld x3 (Rect.unit ![0, 0] ![2048, 128] inb_S2048x256_S2048x128_0_0))))
        (View.ld x1 (Rect.unit ![o, 0] ![128, 128] inb))) x = blockOut x0 x1 x2 x3 x4 y := by
  refine tile_eq x0 x1 x2 x3 x4 _ _ _ _ _ _ y x 0 (by simpa using h1) ?_ ?_ (fun e => ?_) (fun d => ?_) (fun k d => ?_)
    (fun k e => ((wide0_apply _ _ k).1 e).trans ?_) (fun k e => (wide0_apply _ _ k).2 e)
  · exact congrArg x0 (funext fun a => Fin.ext (by fin_cases a; rfl))
  · exact congrArg x0 (funext fun a => Fin.ext (by fin_cases a; rfl))
  · exact congrArg x4 (funext fun a => Fin.ext (by fin_cases a <;> simp))
  · refine View.ld_unit_apply_of _ _ _ _ _ _ fun a => ?_
    fin_cases a <;> simp [h0]
  · refine View.ld_unit_apply_of _ _ _ _ _ _ fun a => ?_
    fin_cases a <;> simp
  · refine View.ld_unit_apply_of _ _ _ _ _ _ fun a => ?_
    fin_cases a <;> simp

/-- A tile of the second head slot, as the kernel stores it. -/
theorem tile1 (arg8 : Memref sig .tc .vmem S2x2048x256 .bf16) (x0 : Vec Ideal S2 .f32) (x1 x2 x3 : Vec Ideal S2048x256 .bf16)
    (x4 : Vec Ideal S1x128 .f32) (X) (o : ℕ) (inb) (y : S2048x256.Idx) (x : S128x128.Idx)
    (h0 : (y 0).val = o + (x 0).val) (h1 : (y 1).val = 128 + (x 1).val) :
    normed (F := Ideal) (k0_pay2 (View.ld x0 (Rect.unit ![1] ![1] inb_S2_S1_1) (Shape.Idx.first (by decide)))
        (View.ld x4 (Rect.unit ![0, 0] ![1, 128] inb_S1x128_S1x128_0_0)))
      (diff (View.ld x0 (Rect.unit ![0] ![1] inb_S2_S1_0) (Shape.Idx.first (by decide)))
        (View.ld x2 (Rect.unit ![0, 128] ![2048, 128] inb_S2048x256_S2048x128_0_128))
        (k0_pay6 (wide1 arg8 X (View.ld x3 (Rect.unit ![0, 128] ![2048, 128] inb_S2048x256_S2048x128_0_128))))
        (View.ld x1 (Rect.unit ![o, 128] ![128, 128] inb))) x = blockOut x0 x1 x2 x3 x4 y := by
  refine tile_eq x0 x1 x2 x3 x4 _ _ _ _ _ _ y x 1 (by simpa using h1) ?_ ?_ (fun e => ?_) (fun d => ?_) (fun k d => ?_)
    (fun k e => ((wide1_apply _ _ _ k).1 e).trans ?_) (fun k e => (wide1_apply _ _ _ k).2 e)
  · exact congrArg x0 (funext fun a => Fin.ext (by fin_cases a; rfl))
  · exact congrArg x0 (funext fun a => Fin.ext (by fin_cases a; rfl))
  · exact congrArg x4 (funext fun a => Fin.ext (by fin_cases a <;> simp))
  · refine View.ld_unit_apply_of _ _ _ _ _ _ fun a => ?_
    fin_cases a <;> simp [h0]
  · refine View.ld_unit_apply_of _ _ _ _ _ _ fun a => ?_
    fin_cases a <;> simp
  · refine View.ld_unit_apply_of _ _ _ _ _ _ fun a => ?_
    fin_cases a <;> simp

set_option maxHeartbeats 2000000 in
/-- What a grid point leaves in the output block. -/
theorem out_eq (c : Dev nD) (i : grid0.Coords) (arg2 : Memref sig .tc .smem S2 .f32) (harg2 : arg2.IsWhole)
    (arg3 : Memref sig .tc .vmem S2048x256 .bf16) (harg3 : arg3.IsWhole) (arg4 : Memref sig .tc .vmem S2048x256 .bf16)
    (harg4 : arg4.IsWhole) (arg5 : Memref sig .tc .vmem S2048x256 .bf16) (harg5 : arg5.IsWhole)
    (arg6 : Memref sig .tc .vmem S1x128 .f32) (harg6 : arg6.IsWhole) (arg7 : Memref sig .tc .vmem S2048x256 .bf16)
    (harg7 : arg7.IsWhole) (arg8 : Memref sig .tc .vmem S2x2048x256 .bf16) (harg8 : arg8.IsWhole)
    (x0 : Vec Ideal S2 .f32) (x1 x2 x3 : Vec Ideal S2048x256 .bf16) (x4 : Vec Ideal S1x128 .f32) :
    out0_A_5 c i arg2 harg2 arg3 harg3 arg4 harg4 arg5 harg5 arg6 harg6 arg7 harg7 arg8 harg8 x0 x1 x2 x3 x4
      = blockOut x0 x1 x2 x3 x4 := by
  funext y
  unfold out0_A_5
  rw [View.read_writes_eq_canon (h := cover0_A_5 c i arg2 harg2 arg3 harg3 arg4 harg4 arg5 harg5 arg6 harg6 arg7 harg7 arg8 harg8 x0 x1 x2 x3 x4)]
  unfold kernelRun0_A
  dsimp only
  sl_unfold_words
  simp only [View.readAt_eq_ld, Memref.IsWhole.read_unread]
  canon_tiles x h
  case piece16 | piece17 | piece18 | piece19 | piece20 | piece21 | piece22 | piece23 | piece24 | piece25 | piece26 | piece27
      | piece28 | piece29 | piece30 | piece31 => exact tile0 arg8 x0 x1 x2 x3 x4 _ _ y x (by omega) (by omega)
  all_goals exact tile1 arg8 x0 x1 x2 x3 x4 _ _ _ y x (by omega) (by omega)

end Cert.KernelIdeal.Attn

end
-- ==== Proof.Attn.Array.lean ====
/-
  The kernel's result array as one function of its arguments, at the extended reals.
-/
module

public import proofs.«01_k».proof.Proof.Attn.Block
public import proofs.«01_k».proof.Proof.Gen.KernelIdeal.Value
public import Idealize.ShloMosaic.Lib.Pipeline.ValueKit.Geometry
public import Idealize.ShloMosaic.Lib.StableHlo.Run
public import Idealize.ShloMosaic.Lib.Tactic.CleanTypes

@[expose] public section

noncomputable section

namespace Cert.KernelIdeal.Attn

open Cert.Attn Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- The result array over the packed projections, the two scalars and the gain. -/
def whole (x : Vec Ideal S98304x3072 .bf16) (s : Vec Ideal S2 .f32) (g : Vec Ideal S1x128 .f32) : Vec Ideal S98304x1024 .bf16 := fun i =>
  have h0 : (i 0).val < 98304 := (i 0).isLt
  have h1 : (i 1).val < 1024 := (i 1).isLt
  krow (s (ix1 0)) (s (ix1 1)) (fun e => g (ix2 0 e))
    (fun d => x (ix2 ⟨(i 0).val, h0⟩ ⟨128 * ((i 1).val / 128) + d, by omega⟩))
    (fun k d => x (ix2 ⟨2048 * ((i 0).val / 2048) + k, by omega⟩ ⟨1024 + (128 * ((i 1).val / 128) + d), by omega⟩))
    (fun k d => x (ix2 ⟨2048 * ((i 0).val / 2048) + k, by omega⟩ ⟨2048 + (128 * ((i 1).val / 128) + d), by omega⟩))
    ⟨(i 1).val % 128, by omega⟩

/-- Each window's block index at a grid point. -/
theorem index_facts : ∀ t : Fin cfg0.N,
    win0_0.index t (0 : Fin 1) = 0 ∧ win0_4.index t (0 : Fin 2) = 0 ∧ win0_4.index t (1 : Fin 2) = 0
    ∧ win0_1.index t (0 : Fin 2) = win0_5.index t (0 : Fin 2) ∧ win0_1.index t (1 : Fin 2) = win0_5.index t (1 : Fin 2)
    ∧ win0_2.index t (0 : Fin 2) = win0_5.index t (0 : Fin 2) ∧ win0_2.index t (1 : Fin 2) = 4 + win0_5.index t (1 : Fin 2)
    ∧ win0_3.index t (0 : Fin 2) = win0_5.index t (0 : Fin 2) ∧ win0_3.index t (1 : Fin 2) = 8 + win0_5.index t (1 : Fin 2)
    ∧ win0_5.index t (0 : Fin 2) < 48 ∧ win0_5.index t (1 : Fin 2) < 4 :=
  (by decide +kernel : ∀ t : Fin grid0.N, _)

/-- A row at equal data. -/
theorem krow_congr {lam lam' sc sc' : EReal} {g g' : Fin 128 → EReal} {q q' : Fin 128 → EReal} {K K' V V' : Fin 2048 → Fin 128 → EReal}
    {e e' : Fin 128} (h1 : lam = lam') (h2 : sc = sc') (h3 : g = g') (h4 : q = q') (h5 : K = K') (h6 : V = V') (h7 : e = e') :
    krow lam sc g q K V e = krow lam' sc' g' q' K' V' e' := by subst_vars; rfl

theorem final (c : Dev nD) :
    (dats m 0 c).arrAt 5 cfg0.N = whole (V m c main_arg0) (V m c main_v11) (V m c main_v12) := by
  refine (dats m 0 c).arrAt_eq_of_covers 5 _ (by decide +kernel) fun t hf y => ?_
  blk_simp
  rw [after0_5]
  unfold outsAt0
  rw [out_eq]
  obtain ⟨a0, a4, a4', a1, a1', a2, a2', a3, a3', hb, hh⟩ := index_facts t
  obtain ⟨r, e, rfl⟩ : ∃ (r : Fin 2048) (e : Fin 256), y = ix2 r e := ⟨y 0, y 1, eq_ix2 y⟩
  unfold blockOut blockAt whole
  blk_simp [iblk]
  refine krow_congr ?_ ?_ (funext fun e => ?_) (funext fun d => ?_) (funext fun k => funext fun d => ?_) (funext fun k => funext fun d => ?_) ?_
  · refine congrArg (V m c main_v11) (funext fun a => Fin.ext ?_)
    match a with
    | ⟨0, _⟩ => blk_simp [a0]
  · refine congrArg (V m c main_v11) (funext fun a => Fin.ext ?_)
    match a with
    | ⟨0, _⟩ => blk_simp [a0]
  · refine congrArg (V m c main_v12) (funext fun a => Fin.ext ?_)
    match a with
    | ⟨0, _⟩ => blk_simp [a4]
    | ⟨1, _⟩ => blk_simp [a4']
  · refine congrArg (V m c main_arg0) (funext fun a => Fin.ext ?_)
    match a with
    | ⟨0, _⟩ => blk_simp [a1]; try (dsimp only; omega)
    | ⟨1, _⟩ => blk_simp [a1']; try (dsimp only; omega)
  · refine congrArg (V m c main_arg0) (funext fun a => Fin.ext ?_)
    match a with
    | ⟨0, _⟩ => blk_simp [a2]; try (dsimp only; omega)
    | ⟨1, _⟩ => blk_simp [a2']; try (dsimp only; omega)
  · refine congrArg (V m c main_arg0) (funext fun a => Fin.ext ?_)
    match a with
    | ⟨0, _⟩ => blk_simp [a3]; try (dsimp only; omega)
    | ⟨1, _⟩ => blk_simp [a3']; try (dsimp only; omega)
  · refine Fin.ext ?_
    show e.val % 128 = (win0_5.index t 1 * 256 + e.val) % 128
    omega

/-- The scalars that the call takes: the weight of the second map and the output's factor; and the gain. -/
theorem scalar0 (c : Dev nD) : (V m c main_v11 : Vec Ideal S2 .f32) (ix1 0)
    = lamOf (fun i => (m (c.tc.loc main_arg2) : Vec Ideal S64 .f32) (ix1 i)) (fun i => (m (c.tc.loc main_arg3) : Vec Ideal S64 .f32) (ix1 i))
      (fun i => (m (c.tc.loc main_arg4) : Vec Ideal S64 .f32) (ix1 i)) (fun i => (m (c.tc.loc main_arg5) : Vec Ideal S64 .f32) (ix1 i))
      ((m (c.tc.loc main_arg1) : Vec Ideal S_ .f32) ix0) := by
  show StableHlo.after hostOps0 (fun b => m (c, b)) (Proc.devRef .tc main_v11) _ = _
  after_results_simp
  clean_types
  pointwise
  rfl

theorem scalar1 (c : Dev nD) : (V m c main_v11 : Vec Ideal S2 .f32) (ix1 1)
    = (1 : EReal) - (m (c.tc.loc main_arg1) : Vec Ideal S_ .f32) ix0 := by
  show StableHlo.after hostOps0 (fun b => m (c, b)) (Proc.devRef .tc main_v11) _ = _
  after_results_simp
  clean_types
  pointwise
  done

theorem gain (c : Dev nD) (e : Fin 128) : (V m c main_v12 : Vec Ideal S1x128 .f32) (ix2 0 e) = (m (c.tc.loc main_arg6) : Vec Ideal S128 .f32) (ix1 e) := by
  show StableHlo.after hostOps0 (fun b => m (c, b)) (Proc.devRef .tc main_v12) _ = _
  after_results_simp
  clean_types
  pointwise

end Cert.KernelIdeal.Attn

end
-- ==== Proof.Attn.Ref.lean ====
/-
  The reference's result at an index: one row of the differential attention, normalised.
-/
module

public import proofs.«01_k».proof.Proof.Attn.Math
public import proofs.«01_k».proof.Proof.Gen.ReferenceIdeal.Run
public import Idealize.ShloMosaic.Lib.Pointwise
public import Idealize.ShloMosaic.Lib.Tactic.CleanTypes

@[expose] public section

noncomputable section

namespace Cert.ReferenceIdeal.Attn

open Cert.Attn Cert.ReferenceIdeal Cert.ReferenceIdeal.Gen Cert.ReferenceIdeal.Value Idealize.ShloMosaic Idealize.ShloMosaic.TcCoe Idealize.SL.Sem

variable (m : (ℓ : Loc nD τ sig) → Buf (Elt Ideal) ℓ)

/-- The scores in base e. -/
def scoresV (x : FVec Ideal S98304x3072 .bf16) : FVec Ideal S48x8x2x2048x2048 .f32 :=
  mulf (Host.dotGeneral dot_S48x2048x8x2x64_S48x2048x8x2x64_S48x8x2x2048x2048_4_4_1_1_023_023 none (shapeCast S48x2048x8x2x64 (extractStridedSlice S98304x1024 ![0, 0] (extf .f32 x bitsLt_bf16_f32) slices_S98304x3072_S98304x1024_0_0) shapeCasts_S98304x1024_S48x2048x8x2x64) (shapeCast S48x2048x8x2x64 (extractStridedSlice S98304x1024 ![0, 1024] (extf .f32 x bitsLt_bf16_f32) slices_S98304x3072_S98304x1024_0_1024) shapeCasts_S98304x1024_S48x2048x8x2x64)) (broadcastInDim S48x8x2x2048x2048 ![] bcast_S_S48x8x2x2048x2048 (Host.log (constant S_ .f32 0x40000000#32)))

/-- The exponentials of the scores less their row's greatest. -/
def expV (s : FVec Ideal S48x8x2x2048x2048 .f32) : FVec Ideal S48x8x2x2048x2048 .f32 :=
  Host.exp (subf s (broadcastInDim S48x8x2x2048x2048 ![0, 1, 2, 3, 4] bcast_S48x8x2x2048x1_S48x8x2x2048x2048_0_1_2_3_4 (broadcastInDim S48x8x2x2048x1 ![0, 1, 2, 3] bcast_S48x8x2x2048_S48x8x2x2048x1_0_1_2_3 (maximumf (broadcastInDim S48x8x2x2048 ![] bcast_S_S48x8x2x2048 (constant S_ .f32 0xFF800000#32)) (Host.reduce FloatOps.maximumf s (constant S_ .f32 0xFF800000#32) reducesTo_S48x8x2x2048x2048_S48x8x2x2048_d4 h_S_)))))

/-- The softmax of the scores. -/
def softV (s : FVec Ideal S48x8x2x2048x2048 .f32) : FVec Ideal S48x8x2x2048x2048 .f32 :=
  Host.divf (expV s) (broadcastInDim S48x8x2x2048x2048 ![0, 1, 2, 3, 4] bcast_S48x8x2x2048x1_S48x8x2x2048x2048_0_1_2_3_4 (broadcastInDim S48x8x2x2048x1 ![0, 1, 2, 3] bcast_S48x8x2x2048_S48x8x2x2048x1_0_1_2_3 (Host.reduceAdd (expV s) (constant S_ .f32 0x00000000#32) reducesTo_S48x8x2x2048x2048_S48x8x2x2048_d4 h_S_)))

/-- The weight of the second map. -/
def lamV (a b c d : FVec Ideal S64 .f32) (l : FVec Ideal S_ .f32) : FVec Ideal S_ .f32 :=
  addf (subf (Host.exp (Host.reduceAdd (mulf a b) (constant S_ .f32 0x00000000#32) reducesTo_S64_S_d0 h_S_)) (Host.exp (Host.reduceAdd (mulf c d) (constant S_ .f32 0x00000000#32) reducesTo_S64_S_d0 h_S_))) l

/-- The difference of the two maps applied to the values. -/
def attnV (p : FVec Ideal S48x8x2x2048x2048 .f32) (lam : FVec Ideal S_ .f32) (x : FVec Ideal S98304x3072 .bf16) : FVec Ideal S48x2048x8x128 .f32 :=
  transpose S48x2048x8x128 [0, 3, 1, 2] (Host.dotGeneral dot_S48x2048x8x128_S48x8x2048x2048_S48x8x128x2048_1_3_3_2_02_01 none (shapeCast S48x2048x8x128 (extractStridedSlice S98304x1024 ![0, 2048] (extf .f32 x bitsLt_bf16_f32) slices_S98304x3072_S98304x1024_0_2048) shapeCasts_S98304x1024_S48x2048x8x128) (subf (shapeCast S48x8x2048x2048 (extractStridedSlice S48x8x1x2048x2048 ![0, 0, 0, 0, 0] p slices_S48x8x2x2048x2048_S48x8x1x2048x2048_0_0_0_0_0) shapeCasts_S48x8x1x2048x2048_S48x8x2048x2048) (mulf (broadcastInDim S48x8x2048x2048 ![] bcast_S_S48x8x2048x2048 lam) (shapeCast S48x8x2048x2048 (extractStridedSlice S48x8x1x2048x2048 ![0, 0, 1, 0, 0] p slices_S48x8x2x2048x2048_S48x8x1x2048x2048_0_0_1_0_0) shapeCasts_S48x8x1x2048x2048_S48x8x2048x2048)))) transposes_S48x8x128x2048_S48x2048x8x128_0_3_1_2

/-- The rows over their root mean square. -/
def normV (o : FVec Ideal S48x2048x8x128 .f32) : FVec Ideal S48x2048x8x128 .f32 :=
  mulf o (broadcastInDim S48x2048x8x128 ![0, 1, 2, 3] bcast_S48x2048x8x1_S48x2048x8x128_0_1_2_3 (Host.rsqrt (addf (Host.divf (broadcastInDim S48x2048x8x1 ![0, 1, 2] bcast_S48x2048x8_S48x2048x8x1_0_1_2 (Host.reduceAdd (mulf o o) (constant S_ .f32 0x00000000#32) reducesTo_S48x2048x8x128_S48x2048x8_d3 h_S_)) (broadcastInDim S48x2048x8x1 ![] bcast_S_S48x2048x8x1 (constant S_ .f32 0x43000000#32))) (broadcastInDim S48x2048x8x1 ![] bcast_S_S48x2048x8x1 (constant S_ .f32 0x3727C5AC#32)))))

/-- The result from the normalised rows. -/
def outV (o : FVec Ideal S48x2048x8x128 .f32) (g : FVec Ideal S128 .f32) (l : FVec Ideal S_ .f32) : FVec Ideal S98304x1024 .bf16 :=
  truncf .bf16 (shapeCast S98304x1024 (mulf (mulf o (broadcastInDim S48x2048x8x128 ![0, 1, 2, 3] bcast_S1x1x1x128_S48x2048x8x128_0_1_2_3 (broadcastInDim S1x1x1x128 ![3] bcast_S128_S1x1x1x128_3 g))) (broadcastInDim S48x2048x8x128 ![] bcast_S_S48x2048x8x128 (subf (constant S_ .f32 0x3F800000#32) l))) shapeCasts_S48x2048x8x128_S98304x1024) bitsLt_bf16_f32

theorem scoresV_apply (x : FVec Ideal S98304x3072 .bf16) (b : Fin 48) (h : Fin 8) (c : Fin 2) (r k : Fin 2048) :
    scoresV x (ix5 b h c r k) = score c (fun d => x (ix2 ⟨2048 * b + r, by omega⟩ ⟨128 * h + d, by omega⟩))
      (fun k d => x (ix2 ⟨2048 * b + k, by omega⟩ ⟨1024 + (128 * h + d), by omega⟩)) k * ln2 := by
  unfold scoresV score ln2
  pointwise
  simp only [Nat.mul_comm, Nat.add_assoc]

theorem max_apply (s : FVec Ideal S48x8x2x2048x2048 .f32) (b : Fin 48) (h : Fin 8) (c : Fin 2) (r : Fin 2048) :
    Host.reduce FloatOps.maximumf s (constant S_ .f32 0xFF800000#32) reducesTo_S48x8x2x2048x2048_S48x8x2x2048_d4 h_S_ (ix4 b h c r)
      = top fun k => s (ix5 b h c r k) := by
  rw [Ideal.maximumf_eq_max, Host.reduce_eq_fold, Shape.ReducesTo.fold_fiber_r5_a4, top]
  exact congrArg (fun z => Finset.univ.fold max z fun k => s (ix5 b h c r k)) ofBits_bot

theorem exp_apply (s : FVec Ideal S48x8x2x2048x2048 .f32) (M : FVec Ideal S48x8x2x2048 .f32) (b : Fin 48) (h : Fin 8) (c : Fin 2) (r k : Fin 2048) :
    (Host.exp (subf s (broadcastInDim S48x8x2x2048x2048 ![0, 1, 2, 3, 4] bcast_S48x8x2x2048x1_S48x8x2x2048x2048_0_1_2_3_4 (broadcastInDim S48x8x2x2048x1 ![0, 1, 2, 3] bcast_S48x8x2x2048_S48x8x2x2048x1_0_1_2_3 M))) : FVec Ideal S48x8x2x2048x2048 .f32) (ix5 b h c r k)
      = Ideal.exp (s (ix5 b h c r k) - M (ix4 b h c r)) := by
  pointwise

theorem bot_apply (M : FVec Ideal S48x8x2x2048 .f32) (j : S48x8x2x2048.Idx) :
    maximumf (broadcastInDim S48x8x2x2048 ![] bcast_S_S48x8x2x2048 (constant S_ .f32 0xFF800000#32)) M j = max ⊥ (M j) :=
  congrArg (fun z => max z (M j)) ofBits_bot

theorem expV_apply (s : FVec Ideal S48x8x2x2048x2048 .f32) (b : Fin 48) (h : Fin 8) (c : Fin 2) (r k : Fin 2048) :
    expV s (ix5 b h c r k) = Ideal.exp (s (ix5 b h c r k) - max ⊥ (top fun k => s (ix5 b h c r k))) := by
  unfold expV
  rw [exp_apply, bot_apply, max_apply]

theorem softV_apply (s : FVec Ideal S48x8x2x2048x2048 .f32) (b : Fin 48) (h : Fin 8) (c : Fin 2) (r k : Fin 2048) :
    softV s (ix5 b h c r k) = Ideal.div (expV s (ix5 b h c r k)) (∑ j, expV s (ix5 b h c r j)) := by
  unfold softV
  pointwise

theorem lamV_apply (a b c d : FVec Ideal S64 .f32) (l : FVec Ideal S_ .f32) :
    lamV a b c d l ix0 = lamOf (fun i => a (ix1 i)) (fun i => b (ix1 i)) (fun i => c (ix1 i)) (fun i => d (ix1 i)) (l ix0) := by
  unfold lamV lamOf
  pointwise

theorem attnV_apply (p : FVec Ideal S48x8x2x2048x2048 .f32) (lam : FVec Ideal S_ .f32) (x : FVec Ideal S98304x3072 .bf16)
    (b : Fin 48) (r : Fin 2048) (h : Fin 8) (e : Fin 128) :
    attnV p lam x (ix4 b r h e) = ∑ k : Fin 2048, x (ix2 ⟨2048 * b + k, by omega⟩ ⟨2048 + (128 * h + e), by omega⟩)
      * (p (ix5 b h 0 r k) - lam ix0 * p (ix5 b h 1 r k)) := by
  unfold attnV
  pointwise
  simp only [Nat.mul_comm]

theorem normV_apply (o : FVec Ideal S48x2048x8x128 .f32) (b : Fin 48) (r : Fin 2048) (h : Fin 8) (e : Fin 128) :
    normV o (ix4 b r h e) = rownorm (fun e => o (ix4 b r h e)) e := by
  unfold normV rownorm
  pointwise

theorem outV_apply (o : FVec Ideal S48x2048x8x128 .f32) (g : FVec Ideal S128 .f32) (l : FVec Ideal S_ .f32) (b : Fin 48) (r : Fin 2048)
    (h : Fin 8) (e : Fin 128) :
    outV o g l (ix2 ⟨2048 * b + r, by omega⟩ ⟨128 * h + e, by omega⟩) = o (ix4 b r h e) * g (ix1 e) * (1 - l ix0) := by
  unfold outV
  pointwise

theorem res_eq (m : (ℓ : Loc nD τ sig) → Buf (Elt Ideal) ℓ) (c : Dev nD) :
    res_main_v56 m c = outV (normV (attnV (softV (scoresV (m (c.tc.loc main_arg0))))
      (lamV (m (c.tc.loc main_arg2)) (m (c.tc.loc main_arg3)) (m (c.tc.loc main_arg4)) (m (c.tc.loc main_arg5)) (m (c.tc.loc main_arg1)))
      (m (c.tc.loc main_arg0)))) (m (c.tc.loc main_arg6)) (m (c.tc.loc main_arg1)) := rfl

/-- The reference's result at an index. -/
theorem res_apply (m : (ℓ : Loc nD τ sig) → Buf (Elt Ideal) ℓ) (c : Dev nD) (x : FVec Ideal S98304x3072 .bf16) (l : FVec Ideal S_ .f32)
    (q1 k1 q2 k2 : FVec Ideal S64 .f32) (g : FVec Ideal S128 .f32) (hx : m (c.tc.loc main_arg0) = x) (hl : m (c.tc.loc main_arg1) = l)
    (h2 : m (c.tc.loc main_arg2) = q1) (h3 : m (c.tc.loc main_arg3) = k1) (h4 : m (c.tc.loc main_arg4) = q2)
    (h5 : m (c.tc.loc main_arg5) = k2) (h6 : m (c.tc.loc main_arg6) = g)
    (b : Fin 48) (r : Fin 2048) (h : Fin 8) (e : Fin 128) :
    res_main_v56 m c (ix2 ⟨2048 * b + r, by omega⟩ ⟨128 * h + e, by omega⟩)
      = rrow (lamOf (fun i => q1 (ix1 i)) (fun i => k1 (ix1 i)) (fun i => q2 (ix1 i)) (fun i => k2 (ix1 i)) (l ix0))
          (1 - l ix0) (fun e => g (ix1 e))
          (fun d => x (ix2 ⟨2048 * b + r, by omega⟩ ⟨128 * h + d, by omega⟩))
          (fun k d => x (ix2 ⟨2048 * b + k, by omega⟩ ⟨1024 + (128 * h + d), by omega⟩))
          (fun k d => x (ix2 ⟨2048 * b + k, by omega⟩ ⟨2048 + (128 * h + d), by omega⟩)) e := by
  subst hx hl h2 h3 h4 h5 h6
  rw [res_eq, outV_apply, normV_apply, rrow]
  refine congrArg (fun o => rownorm o e * _ * _) (funext fun e => ?_)
  rw [attnV_apply, rdiff, lamV_apply]
  refine Finset.sum_congr rfl fun k _ => ?_
  have hs : ∀ (c' : Fin 2) (j : Fin 2048), expV (scoresV (m (c.tc.loc main_arg0))) (ix5 b h c' r j)
      = rweight (score c' (fun d => (m (c.tc.loc main_arg0) : FVec Ideal S98304x3072 .bf16) (ix2 ⟨2048 * b + r, by omega⟩ ⟨128 * h + d, by omega⟩))
        (fun k d => (m (c.tc.loc main_arg0) : FVec Ideal S98304x3072 .bf16) (ix2 ⟨2048 * b + k, by omega⟩ ⟨1024 + (128 * h + d), by omega⟩))) j := by
    intro c' j
    rw [expV_apply, rweight]
    simp only [scoresV_apply]
  simp only [softV_apply, hs, rsoft]

end Cert.ReferenceIdeal.Attn

end
-- ==== Proof.Attn.Pre.lean ====
/-
  What the precondition says of the arguments: each is a real number.
-/
module

public import proofs.«01_k».proof.Pre_finite
public import Idealize.ShloMosaic.Lib.Pointwise
public import Idealize.ShloMosaic.Lib.ReduceAll
public import Idealize.ShloMosaic.PureOps.Ideal.Laws

@[expose] public section

noncomputable section

namespace Cert.Pre_finite

open Cert.Pre_finite Facts Idealize.ShloMosaic Idealize.SL.Sem

theorem facts : Facts where
  bitsLt_bf16_f32 := by decide
  bcast_S_S98304x3072 := by decide
  reducesTo_S98304x3072_S_d0_1 := by decide
  h_S_ := by decide
  bcast_S_S64 := by decide
  reducesTo_S64_S_d0 := by decide

/-- The pattern of infinity is the top. -/
theorem ofBits_top : Ideal.ofBits .f32 0x7F800000#32 = ⊤ := by
  simp [Ideal.ofBits, Ideal.ieee, -EReal.coe_mul]

/-- Below infinity in absolute value is a real number. -/
theorem real_of_abs (x : EReal) (h : Ideal.cmp .olt (max x (-x)) (Ideal.ofBits .f32 0x7F800000#32) = 1#1) : ∃ r : ℝ, x = r := by
  rw [ofBits_top] at h
  have h' : max x (-x) < ⊤ := by
    by_contra hn
    simp [Ideal.cmp, hn] at h
  induction x with
  | bot => simp at h'
  | top => simp at h'
  | coe r => exact ⟨r, rfl⟩

instance : Subsingleton S_.Idx := ⟨fun a b => funext fun i => i.elim0⟩

variable [Facts]

theorem real_args (x : FVec Ideal S98304x3072 .bf16) (li : FVec Ideal S_ .f32) (a b c d : FVec Ideal S64 .f32) (g : FVec Ideal S128 .f32)
    (h : fn x li a b c d g = fun _ => 1#1) :
    (∀ i, ∃ r : ℝ, x i = (r : EReal)) ∧ (∀ i, ∃ r : ℝ, li i = (r : EReal)) ∧ (∀ i, ∃ r : ℝ, a i = (r : EReal)) ∧ (∀ i, ∃ r : ℝ, b i = (r : EReal))
      ∧ (∀ i, ∃ r : ℝ, c i = (r : EReal)) ∧ (∀ i, ∃ r : ℝ, d i = (r : EReal)) := by
  have h0 := congrFun h (fun i => i.elim0)
  dsimp only [fn, fn_part1, andi] at h0
  simp only [IntOp.andi_eq_one] at h0
  obtain ⟨⟨⟨⟨⟨hx, hl⟩, ha⟩, hb⟩, hc⟩, hd⟩ := h0
  refine ⟨fun i => real_of_abs _ (Host.reduce_andi_all _ _ _ _ _ hx i), fun i => real_of_abs _ ?_,
    fun i => real_of_abs _ (Host.reduce_andi_all _ _ _ _ _ ha i), fun i => real_of_abs _ (Host.reduce_andi_all _ _ _ _ _ hb i),
    fun i => real_of_abs _ (Host.reduce_andi_all _ _ _ _ _ hc i), fun i => real_of_abs _ (Host.reduce_andi_all _ _ _ _ _ hd i)⟩
  obtain rfl : i = fun j => j.elim0 := Subsingleton.elim _ _
  exact hl

end Cert.Pre_finite

end
-- ==== Proof.Attn.Claim.lean ====
/-
  The attention call's result is the reference's, for finite arguments.
-/
module

public import proofs.«01_k».proof.Proof.Attn.Array
public import proofs.«01_k».proof.Proof.Attn.Ref
public import proofs.«01_k».proof.Proof.Attn.Pre
public import proofs.«01_k».proof.Defs
public import Idealize.ShloMosaic.Adequacy
public import Idealize.ShloMosaic.Init

@[expose] public section

noncomputable section

namespace Cert.Proof

open Idealize.ShloMosaic Idealize.ShloMosaic.TcCoe Idealize.SL.Sem Cert.Attn

/-- A row and a lane of the reference's result, as the kernel's array has them. -/
theorem whole_eq (x : FVec Ideal Cert.KernelIdeal.S98304x3072 .bf16) (s : FVec Ideal Cert.KernelIdeal.S2 .f32) (gk : FVec Ideal Cert.KernelIdeal.S1x128 .f32)
    (lam sc : EReal) (g : Fin 128 → EReal) (h0 : s (ix1 0) = lam) (h1 : s (ix1 1) = sc) (hg : ∀ e, gk (ix2 0 e) = g e)
    (hl : ∃ r : ℝ, lam = r) (hx : ∀ i, ∃ r : ℝ, x i = r) (b : Fin 48) (r : Fin 2048) (h : Fin 8) (e : Fin 128) :
    Cert.KernelIdeal.Attn.whole x s gk (ix2 ⟨2048 * b + r, by omega⟩ ⟨128 * h + e, by omega⟩)
      = rrow lam sc g (fun d => x (ix2 ⟨2048 * b + r, by omega⟩ ⟨128 * h + d, by omega⟩))
          (fun k d => x (ix2 ⟨2048 * b + k, by omega⟩ ⟨1024 + (128 * h + d), by omega⟩))
          (fun k d => x (ix2 ⟨2048 * b + k, by omega⟩ ⟨2048 + (128 * h + d), by omega⟩)) e := by
  rw [← krow_eq_rrow lam sc g _ _ _ e hl (fun d => hx _) (fun k d => hx _) (fun k d => hx _)]
  unfold Cert.KernelIdeal.Attn.whole
  have e0 : (2048 * b.val + r.val) / 2048 = b.val := by omega
  have e1 : (128 * h.val + e.val) / 128 = h.val := by omega
  have e2 : (128 * h.val + e.val) % 128 = e.val := by omega
  simp only [ix2_0, ix2_1, h0, h1, hg, e0, e1, e2]

/-- Every index of the result is a row of a sequence and a lane of a head. -/
theorem split_index (i : Cert.KernelIdeal.S98304x1024.Idx) : ∃ (b : Fin 48) (r : Fin 2048) (h : Fin 8) (e : Fin 128),
    i = ix2 ⟨2048 * b + r, by omega⟩ ⟨128 * h + e, by omega⟩ := by
  have i0 : (i 0).val < 98304 := (i 0).isLt
  have i1 : (i 1).val < 1024 := (i 1).isLt
  refine ⟨⟨(i 0).val / 2048, by omega⟩, ⟨(i 0).val % 2048, by omega⟩, ⟨(i 1).val / 128, by omega⟩, ⟨(i 1).val % 128, by omega⟩, ?_⟩
  refine (eq_ix2 (n0 := 98304) (n1 := 1024) i).trans ?_
  exact congrArg₂ (ix2 (n0 := 98304) (n1 := 1024)) (Fin.ext (Nat.div_add_mod _ _).symm) (Fin.ext (Nat.div_add_mod _ _).symm)

/-- The two programs' results at equal arguments. -/
theorem attn_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (x : FVec Ideal Cert.KernelIdeal.S98304x3072 .bf16) (l : FVec Ideal Cert.KernelIdeal.S_ .f32)
    (q1 k1 q2 k2 : FVec Ideal Cert.KernelIdeal.S64 .f32) (g : FVec Ideal Cert.KernelIdeal.S128 .f32)
    (h0 : m (c.tc.loc Cert.KernelIdeal.main_arg0) = x) (h1 : m (c.tc.loc Cert.KernelIdeal.main_arg1) = l)
    (h2 : m (c.tc.loc Cert.KernelIdeal.main_arg2) = q1) (h3 : m (c.tc.loc Cert.KernelIdeal.main_arg3) = k1)
    (h4 : m (c.tc.loc Cert.KernelIdeal.main_arg4) = q2) (h5 : m (c.tc.loc Cert.KernelIdeal.main_arg5) = k2)
    (h6 : m (c.tc.loc Cert.KernelIdeal.main_arg6) = g)
    (r0 : m' (c.tc.loc Cert.ReferenceIdeal.main_arg0) = x) (r1 : m' (c.tc.loc Cert.ReferenceIdeal.main_arg1) = l)
    (r2 : m' (c.tc.loc Cert.ReferenceIdeal.main_arg2) = q1) (r3 : m' (c.tc.loc Cert.ReferenceIdeal.main_arg3) = k1)
    (r4 : m' (c.tc.loc Cert.ReferenceIdeal.main_arg4) = q2) (r5 : m' (c.tc.loc Cert.ReferenceIdeal.main_arg5) = k2)
    (r6 : m' (c.tc.loc Cert.ReferenceIdeal.main_arg6) = g)
    (hx : ∀ i, ∃ r : ℝ, x i = (r : EReal)) (hl : ∀ i, ∃ r : ℝ, l i = (r : EReal)) (ha : ∀ i, ∃ r : ℝ, q1 i = (r : EReal))
    (hb : ∀ i, ∃ r : ℝ, k1 i = (r : EReal)) (hc : ∀ i, ∃ r : ℝ, q2 i = (r : EReal)) (hd : ∀ i, ∃ r : ℝ, k2 i = (r : EReal)) :
    Cert.ReferenceIdeal.Value.res_main_v56 m' c = (Cert.KernelIdeal.Gen.dats m 0 c).arrAt 5 Cert.KernelIdeal.cfg0.N := by
  rw [Cert.KernelIdeal.Attn.final m c, Cert.KernelIdeal.Gen.V_main_arg0 m c, h0]
  funext i
  obtain ⟨b, r, h, e, rfl⟩ := split_index i
  rw [Cert.ReferenceIdeal.Attn.res_apply m' c x l q1 k1 q2 k2 g r0 r1 r2 r3 r4 r5 r6 b r h e]
  refine (whole_eq x _ _ _ _ (fun e => g (ix1 e)) ?_ ?_ (fun e => ?_) ?_ hx b r h e).symm
  · rw [Cert.KernelIdeal.Attn.scalar0 m c, h1, h2, h3, h4, h5]
  · rw [Cert.KernelIdeal.Attn.scalar1 m c, h1]
  · rw [Cert.KernelIdeal.Attn.gain m c, h6]
  · exact lamOf_coe _ _ _ _ _ (fun i => ha _) (fun i => hb _) (fun i => hc _) (fun i => hd _) (hl _)

end Cert.Proof

end
-- ==== Proof.Merge.Math.lean ====
/-
  One row of a layer's end, over extended reals: the scaled stream plus the two gated experts' outputs, and its norm.
-/
module

public import Idealize.ShloMosaic.Lib.Pointwise

@[expose] public section

noncomputable section

namespace Cert.Merge

open Idealize.ShloMosaic

/-- The mean of a row. -/
def mean (t : Fin 1024 → EReal) : EReal := Ideal.div (∑ x, t x) (Ideal.ofBits FTy.f32 0x44800000#32)

/-- A row less its mean. -/
def centred (t : Fin 1024 → EReal) (e : Fin 1024) : EReal := t e - mean t

/-- The norm of a row, with its gain and offset. -/
def normRow (t g b : Fin 1024 → EReal) (e : Fin 1024) : EReal :=
  centred t e * Ideal.rsqrt (mean (fun x => centred t x * centred t x) + Ideal.ofBits FTy.f32 0x3727C5AC#32) * g e + b e

/-- An entry of the stream, scaled, plus the two experts' outputs at their gates. -/
def mixAt (x y z p q : EReal) : EReal := Ideal.ofBits FTy.f32 0x3FD744FD#32 * x + (p * y + q * z)

/-- A row of the stream after the layer. -/
def mergeRow (x y z : Fin 1024 → EReal) (p q : EReal) (g b : Fin 1024 → EReal) (e : Fin 1024) : EReal :=
  normRow (fun e => mixAt (x e) (y e) (z e) p q) g b e

theorem mergeRow_congr {x x' y y' z z' g g' b b' : Fin 1024 → EReal} {p p' q q' : EReal} {e e' : Fin 1024}
    (hx : ∀ e, x e = x' e) (hy : ∀ e, y e = y' e) (hz : ∀ e, z e = z' e) (hp : p = p') (hq : q = q')
    (hg : ∀ e, g e = g' e) (hb : ∀ e, b e = b' e) (he : e = e') :
    mergeRow x y z p q g b e = mergeRow x' y' z' p' q' g' b' e' := by
  obtain rfl := funext hx
  obtain rfl := funext hy
  obtain rfl := funext hz
  obtain rfl := funext hg
  obtain rfl := funext hb
  subst_vars
  rfl

/-- A token's row of the stream after the layer, from the arrays that hold eight rows of 128 to a token. -/
def streamAt (x : FVec Ideal ⟨2, ![786432, 128]⟩ .f32) (y : FVec Ideal ⟨2, ![1581056, 128]⟩ .f32) (R : FVec Ideal ⟨2, ![98304, 128]⟩ .f32)
    (g b : Fin 1024 → EReal) (n : Fin 98304) (e : Fin 1024) : EReal :=
  mergeRow (fun e => x (ix2 ⟨8 * n + e / 128, by omega⟩ ⟨e % 128, by omega⟩))
    (fun e => y (ix2 ⟨8 * n + e / 128, by omega⟩ ⟨e % 128, by omega⟩))
    (fun e => y (ix2 ⟨786432 + (8 * n + e / 128), by omega⟩ ⟨e % 128, by omega⟩)) (R (ix2 n 2)) (R (ix2 n 3)) g b e

end Cert.Merge

end
-- ==== Proof.Inproj.Norm.lean ====
/-
  The layer's end on 512 rows of the next layer's projection as the kernel computes it, entry by entry: its payload is the norm of eight column slabs.
-/
module

public import proofs.«01_k».proof.Proof.Gen.Kernel2Ideal.Skeleton
public import proofs.«01_k».proof.Proof.Merge.Math

@[expose] public section

noncomputable section

namespace Cert.Kernel2Ideal.Inproj

open Cert.Merge Cert.Kernel2Ideal Cert.Kernel2Ideal.Gen Idealize.ShloMosaic Idealize.SL.Sem

section Defs
variable {F : FTy → Type} [FloatOps F]

/-- A slab of 128 columns: the scaled stream plus the gated experts' outputs. -/
def slab (p q x y z : FVec F S512x128 .f32) : FVec F S512x128 .f32 :=
  addf (mulf (broadcast S512x128 (Scalar.ofBits .f32 0x3FD744FD#32)) x) (addf (mulf p y) (mulf q z))

/-- Eight slabs side by side. -/
def joined (S : Fin 8 → FVec F S512x128 .f32) : FVec F S512x1024 .f32 :=
  concatenate S512x1024 1 [⟨S512x128, S 0⟩, ⟨S512x128, S 1⟩, ⟨S512x128, S 2⟩, ⟨S512x128, S 3⟩, ⟨S512x128, S 4⟩, ⟨S512x128, S 5⟩,
    ⟨S512x128, S 6⟩, ⟨S512x128, S 7⟩] concatenates_S512x128_S512x128_S512x128_S512x128_S512x128_S512x128_S512x128_S512x128_S512x1024_d1

/-- The means of the rows. -/
def means (v : FVec F S512x1024 .f32) : FVec F S512x1 .f32 :=
  divf (shapeCast S512x1 (multiReduction .add [1] S512 v 0x00000000#32 reduces_S512x1024_S512 (.inl rfl) rfl) shapeCasts_S512_S512x1)
    (broadcast S512x1 (Scalar.ofBits .f32 0x44800000#32))

/-- The rows less their means. -/
def centre (v : FVec F S512x1024 .f32) : FVec F S512x1024 .f32 :=
  subf v (broadcastTo S512x1024 (means v) broadcasts_S512x1_S512x1024)

/-- The norm of the rows. -/
def norms (g b : FVec F S1x1024 .f32) (v : FVec F S512x1024 .f32) : FVec F S512x1024 .f32 :=
  addf (mulf (mulf (centre v) (broadcastTo S512x1024
      (rsqrt (addf (means (mulf (centre v) (centre v))) (broadcast S512x1 (Scalar.ofBits .f32 0x3727C5AC#32)))) broadcasts_S512x1_S512x1024))
    (broadcastTo S512x1024 (shapeCast S1x1024 g shapeCasts_S1x1024_S1x1024) broadcasts_S1x1024_S512x1024))
    (broadcastTo S512x1024 (shapeCast S1x1024 b shapeCasts_S1x1024_S1x1024) broadcasts_S1x1024_S512x1024)

end Defs

set_option maxRecDepth 16384

theorem gate0_apply (R : FVec Ideal S512x128 .f32) (r : Fin 512) (l : Fin 128) : k0_pay1 R (ix2 r l) = R (ix2 r 2) := by
  pointwise [k0_pay1]

theorem gate1_apply (R : FVec Ideal S512x128 .f32) (r : Fin 512) (l : Fin 128) : k0_pay2 R (ix2 r l) = R (ix2 r 3) := by
  pointwise [k0_pay2]

theorem slab_apply (p q x y z : FVec Ideal S512x128 .f32) (r : Fin 512) (l : Fin 128) :
    slab p q x y z (ix2 r l) = mixAt (x (ix2 r l)) (y (ix2 r l)) (z (ix2 r l)) (p (ix2 r l)) (q (ix2 r l)) := by
  pointwise [slab, mixAt]

theorem joined_apply (S : Fin 8 → FVec Ideal S512x128 .f32) (r : Fin 512) (k : Fin 8) (l : Fin 128) :
    joined S (ix2 r ⟨128 * k + l, by omega⟩) = S k (ix2 r l) := by
  have hl := l.isLt
  fin_cases k <;> pointwise [joined]
  all_goals
    simp (disch := omega) only [dif_neg, dif_pos]
    exact congrArg (fun l => S _ (ix2 r l)) (Fin.ext (by dsimp only; omega))

theorem joined_at (S : Fin 8 → FVec Ideal S512x128 .f32) (r : Fin 512) (e : Fin 1024) :
    joined S (ix2 r e) = S ⟨e / 128, by omega⟩ (ix2 r ⟨e % 128, by omega⟩) := by
  have h := joined_apply S r ⟨e / 128, by omega⟩ ⟨e % 128, by omega⟩
  rw [← h]
  exact congrArg (fun e => joined S (ix2 r e)) (Fin.ext (by show e.val = 128 * (e.val / 128) + e.val % 128; omega))

theorem means_apply (v : FVec Ideal S512x1024 .f32) (r : Fin 512) : means v (ix2 r 0) = mean fun e => v (ix2 r e) := by
  pointwise [means, mean]

theorem centre_apply (v : FVec Ideal S512x1024 .f32) (r : Fin 512) (e : Fin 1024) :
    centre v (ix2 r e) = centred (fun e => v (ix2 r e)) e := by
  pointwise [centre]
  rw [means_apply]
  rfl

theorem norms_apply (g b : FVec Ideal S1x1024 .f32) (v : FVec Ideal S512x1024 .f32) (r : Fin 512) (e : Fin 1024) :
    norms g b v (ix2 r e) = normRow (fun e => v (ix2 r e)) (fun e => g (ix2 0 e)) (fun e => b (ix2 0 e)) e := by
  pointwise [norms]
  rw [means_apply, centre_apply]
  pointwise
  simp only [centre_apply]
  rfl

/-- The payload of the output. -/
theorem pay_apply (R : FVec Ideal S512x128 .f32) (X Y Z : Fin 8 → FVec Ideal S512x128 .f32) (g b : FVec Ideal S1x1024 .f32)
    (r : Fin 512) (e : Fin 1024) :
    k0_pay12 (F := Ideal) (k0_pay1 R) (k0_pay2 R) (k0_pay3 R (X 0) (Y 0) (Z 0)) (k0_pay4 R (X 1) (Y 1) (Z 1)) (k0_pay5 R (X 2) (Y 2) (Z 2))
      (k0_pay6 (k0_pay1 R) (k0_pay2 R) (X 3) (Y 3) (Z 3)) (k0_pay7 (k0_pay1 R) (k0_pay2 R) (X 4) (Y 4) (Z 4))
      (k0_pay8 (k0_pay1 R) (k0_pay2 R) (X 5) (Y 5) (Z 5)) (k0_pay9 (X 6)) (k0_pay10 (k0_pay1 R) (Y 6)) (k0_pay11 (k0_pay2 R) (Z 6))
      (X 7) (Y 7) (Z 7) g b (ix2 r e)
    = mergeRow (fun e => X ⟨e / 128, by omega⟩ (ix2 r ⟨e % 128, by omega⟩)) (fun e => Y ⟨e / 128, by omega⟩ (ix2 r ⟨e % 128, by omega⟩))
        (fun e => Z ⟨e / 128, by omega⟩ (ix2 r ⟨e % 128, by omega⟩)) (R (ix2 r 2)) (R (ix2 r 3)) (fun e => g (ix2 0 e))
        (fun e => b (ix2 0 e)) e := by
  show norms g b (joined fun k => slab (k0_pay1 R) (k0_pay2 R) (X k) (Y k) (Z k)) (ix2 r e) = _
  rw [norms_apply]
  simp only [joined_at, slab_apply, gate0_apply, gate1_apply]
  rfl

end Cert.Kernel2Ideal.Inproj

end
-- ==== Proof.Inproj.Math.lean ====
/-
  One row of a layer's projection, over extended reals: queries and keys after their rotary turn, values, and the rest.
-/
module

public import proofs.«01_k».proof.Proof.Merge.Math

@[expose] public section

noncomputable section

namespace Cert.Inproj

open Idealize.ShloMosaic

/-- The scores' scale, in base 2: an eighth over the logarithm of 2. -/
def scale : EReal := (((1 / 8) * (Real.log 2)⁻¹ : ℝ) : EReal)

/-- An eighth, divided by the logarithm of 2, is the scale. -/
theorem scale_eq : Ideal.div (Ideal.ofBits .f32 0x3E000000#32) (Ideal.log (Ideal.ofBits .f32 0x40000000#32)) = scale := by
  have h8 : Ideal.ofBits .f32 0x3E000000#32 = ((1 / 8 : ℝ) : EReal) := by
    simp [Ideal.ofBits, Ideal.ieee, -EReal.coe_mul]; norm_num
  have h2 : Ideal.ofBits .f32 0x40000000#32 = ((2 : ℝ) : EReal) := by
    simp [Ideal.ofBits, Ideal.ieee, -EReal.coe_mul]; norm_num
  have hl : Real.log 2 ≠ 0 := (Real.log_pos (by norm_num)).ne'
  rw [h8, h2, Ideal.log_coe, if_neg (by norm_num), Ideal.div_coe hl, one_div (Real.log 2), ← EReal.coe_mul]
  rfl

/-- The rotary turn of a head's two maps, the sines with their signs. -/
def turn (a c s : Fin 128 → EReal) (l : Fin 128) : EReal :=
  a l * c l + (if l.val % 64 < 32 then a ⟨(l + 32) % 128, by omega⟩ else a ⟨(l + 96) % 128, by omega⟩) * s l

/-- The head that a column lies in. -/
def headOf (u : Fin 7168 → EReal) (e : Fin 3072) (l : Fin 128) : EReal := u ⟨128 * (e / 128) + l, by omega⟩

/-- A row's queries, keys and values. -/
def qkvRow (u : Fin 7168 → EReal) (c s : Fin 128 → EReal) (e : Fin 3072) : EReal :=
  if e.val < 1024 then turn (headOf u e) c s ⟨e % 128, by omega⟩ * scale
  else if e.val < 2048 then turn (headOf u e) c s ⟨e % 128, by omega⟩
  else u ⟨e, by omega⟩

/-- A row times the weights. -/
def proj (x : Fin 1024 → EReal) (w : FVec Ideal ⟨2, ![1024, 7168]⟩ .bf16) (e : Fin 7168) : EReal := ∑ k : Fin 1024, x k * w (ix2 k e)

end Cert.Inproj

end
-- ==== Proof.Inproj.Tile.lean ====
/-
  The tiles that the projection stores, entry by entry.
-/
module

public import proofs.«01_k».proof.Proof.Inproj.Norm
public import proofs.«01_k».proof.Proof.Inproj.Math
public import Idealize.ShloMosaic.Lib.Pipeline.ValueKit.Tiles

@[expose] public section

noncomputable section

namespace Cert.Kernel2Ideal.Inproj

open Cert.Merge Cert.Inproj Cert.Kernel2Ideal Cert.Kernel2Ideal.Gen Idealize.ShloMosaic Idealize.SL.Sem

section Defs
variable {F : FTy → Type} [FloatOps F] [Named F]

/-- The rotary turn of a tile. -/
def turned (C S a : FVec F S512x128 .f32) : FVec F S512x128 .f32 :=
  addf (mulf a (k0_pay14 C)) (mulf (select k0_pay16 (dynamicRotate 1 96#32 none a rotates_S512x128_d1) (dynamicRotate 1 32#32 none a rotates_S512x128_d1)) (k0_pay15 S))

/-- A tile of queries, turned and scaled. -/
def qTile (C S : FVec F S512x128 .f32) (X : FVec F S512x1024 .bf16) (w : FVec F S1024x512 .bf16) (o : ℕ) (h : S512x512.Slices ![0, o] S512x128) :
    FVec F S512x128 .bf16 :=
  truncf .bf16 (mulf (turned C S (extractStridedSlice S512x128 ![0, o] (k0_pay17 X w) h)) (broadcast S512x128 (Named.named κ "scale" 0x3E38AA3B#32))) bitsLt_bf16_f32

/-- A tile of keys, turned. -/
def kTile (C S : FVec F S512x128 .f32) (X : FVec F S512x1024 .bf16) (w : FVec F S1024x512 .bf16) (o : ℕ) (h : S512x512.Slices ![0, o] S512x128) :
    FVec F S512x128 .bf16 :=
  truncf .bf16 (turned C S (extractStridedSlice S512x128 ![0, o] (k0_pay17 X w) h)) bitsLt_bf16_f32

/-- A tile of products as they are. -/
def vTile (X : FVec F S512x1024 .bf16) (w : FVec F S1024x512 .bf16) (o : ℕ) (h : S512x512.Slices ![0, o] S512x128) : FVec F S512x128 .bf16 :=
  truncf .bf16 (extractStridedSlice S512x128 ![0, o] (k0_pay17 X w) h) bitsLt_bf16_f32

end Defs

set_option maxRecDepth 16384

theorem lane_mask : ∀ l : Fin 128, IntOp.cmpi CmpIPredicate.slt
      (Scalar.select
        (IntOp.andi
          (IntOp.xori
            (IntOp.cmpi CmpIPredicate.slt
              (IntOp.remsi ArithUnit.vector (BitVec.ofNat 32 l.val)
                (Scalar.select (Scalar.cmpi CmpIPredicate.eq 64#32 0#32) 1#32 64#32))
              0#32)
            (Scalar.cmpi CmpIPredicate.slt (Scalar.select (Scalar.cmpi CmpIPredicate.eq 64#32 0#32) 1#32 64#32) 0#32))
          (IntOp.cmpi CmpIPredicate.ne
            (IntOp.remsi ArithUnit.vector (BitVec.ofNat 32 l.val)
              (Scalar.select (Scalar.cmpi CmpIPredicate.eq 64#32 0#32) 1#32 64#32))
            0#32))
        (IntOp.addi
          (IntOp.remsi ArithUnit.vector (BitVec.ofNat 32 l.val)
            (Scalar.select (Scalar.cmpi CmpIPredicate.eq 64#32 0#32) 1#32 64#32))
          (Scalar.select (Scalar.cmpi CmpIPredicate.eq 64#32 0#32) 1#32 64#32))
        (IntOp.remsi ArithUnit.vector (BitVec.ofNat 32 l.val)
          (Scalar.select (Scalar.cmpi CmpIPredicate.eq 64#32 0#32) 1#32 64#32)))
      32#32 = if l.val % 64 < 32 then 1#1 else 0#1 := by
  decide +kernel

theorem mask_apply (r : Fin 512) (l : Fin 128) : k0_pay16 (ix2 r l) = if l.val % 64 < 32 then 1#1 else 0#1 := by
  pointwise [k0_pay16]
  exact lane_mask l

theorem rotUp_apply (a : FVec Ideal S512x128 .f32) (r : Fin 512) (l : Fin 128) :
    dynamicRotate 1 96#32 none a rotates_S512x128_d1 (ix2 r l) = a (ix2 r ⟨(l + 32) % 128, by omega⟩) := by
  pointwise
  rfl

theorem rotDown_apply (a : FVec Ideal S512x128 .f32) (r : Fin 512) (l : Fin 128) :
    dynamicRotate 1 32#32 none a rotates_S512x128_d1 (ix2 r l) = a (ix2 r ⟨(l + 96) % 128, by omega⟩) := by
  pointwise
  rfl

theorem prod_apply (X : FVec Ideal S512x1024 .bf16) (w : FVec Ideal S1024x512 .bf16) (r : Fin 512) (j : Fin 512) :
    k0_pay17 X w (ix2 r j) = ∑ k : Fin 1024, X (ix2 r k) * w (ix2 k j) := by
  pointwise [k0_pay17]

theorem part_apply (P : FVec Ideal S512x512 .f32) (o : ℕ) (h : S512x512.Slices ![0, o] S512x128) (ho : o + 128 ≤ 512) (r : Fin 512) (l : Fin 128) :
    extractStridedSlice S512x128 ![0, o] P h (ix2 r l) = P (ix2 r ⟨o + l, by omega⟩) := by
  pointwise

theorem turned_apply (C S a : FVec Ideal S512x128 .f32) (r : Fin 512) (l : Fin 128) :
    turned C S a (ix2 r l) = turn (fun l => a (ix2 r l)) (fun l => C (ix2 r l)) (fun l => S (ix2 r l)) l := by
  show a (ix2 r l) * k0_pay14 C (ix2 r l) + Scalar.select (k0_pay16 (ix2 r l)) (dynamicRotate 1 96#32 none a rotates_S512x128_d1 (ix2 r l))
    (dynamicRotate 1 32#32 none a rotates_S512x128_d1 (ix2 r l)) * k0_pay15 S (ix2 r l) = _
  have hC : k0_pay14 C (ix2 r l) = C (ix2 r l) := by pointwise [k0_pay14]
  have hS : k0_pay15 S (ix2 r l) = S (ix2 r l) := by pointwise [k0_pay15]
  rw [hC, hS, mask_apply, rotUp_apply, rotDown_apply]
  unfold turn
  split_ifs <;> rfl

theorem vTile_apply (X : FVec Ideal S512x1024 .bf16) (w : FVec Ideal S1024x512 .bf16) (o : ℕ) (h : S512x512.Slices ![0, o] S512x128)
    (ho : o + 128 ≤ 512) (r : Fin 512) (l : Fin 128) : vTile X w o h (ix2 r l) = ∑ k : Fin 1024, X (ix2 r k) * w (ix2 k ⟨o + l, by omega⟩) :=
  (part_apply _ o h ho r l).trans (prod_apply X w r _)

theorem kTile_apply (C S : FVec Ideal S512x128 .f32) (X : FVec Ideal S512x1024 .bf16) (w : FVec Ideal S1024x512 .bf16) (o : ℕ)
    (h : S512x512.Slices ![0, o] S512x128) (ho : o + 128 ≤ 512) (r : Fin 512) (l : Fin 128) :
    kTile C S X w o h (ix2 r l) = turn (fun l => ∑ k : Fin 1024, X (ix2 r k) * w (ix2 k ⟨o + l, by omega⟩)) (fun l => C (ix2 r l)) (fun l => S (ix2 r l)) l := by
  refine (turned_apply C S _ r l).trans ?_
  exact congrArg (fun a => turn a _ _ l) (funext fun l => vTile_apply X w o h ho r l)

/-- The kernel's factor on the queries is the scale. -/
theorem named_scale : Named.named (F := Ideal) κ "scale" (φ := .f32) 0x3E38AA3B#32 = scale :=
  IdealRules.named_const.ideal_named_scalar _ _ _ _ rfl

theorem qTile_apply (C S : FVec Ideal S512x128 .f32) (X : FVec Ideal S512x1024 .bf16) (w : FVec Ideal S1024x512 .bf16) (o : ℕ)
    (h : S512x512.Slices ![0, o] S512x128) (ho : o + 128 ≤ 512) (r : Fin 512) (l : Fin 128) :
    qTile C S X w o h (ix2 r l)
      = turn (fun l => ∑ k : Fin 1024, X (ix2 r k) * w (ix2 k ⟨o + l, by omega⟩)) (fun l => C (ix2 r l)) (fun l => S (ix2 r l)) l * scale :=
  congrArg₂ (fun z s => z * s) (kTile_apply C S X w o h ho r l) named_scale

/-- The block of queries, keys and values, from a block of rows, the weights, and the tables of cosines and sines. -/
def qkvBlock (B : Vec Ideal S512x1024 .f32) (w : Vec Ideal S1024x7168 .bf16) (C S : Vec Ideal S512x128 .f32) : Vec Ideal S512x3072 .bf16 := fun y =>
  have h0 : (y 0).val < 512 := (y 0).isLt
  qkvRow (proj (fun k => B (ix2 ⟨(y 0).val, h0⟩ k)) w) (fun l => C (ix2 ⟨(y 0).val, h0⟩ l)) (fun l => S (ix2 ⟨(y 0).val, h0⟩ l)) ⟨(y 1).val, (y 1).isLt⟩

/-- The block of the other products. -/
def restBlock (B : Vec Ideal S512x1024 .f32) (w : Vec Ideal S1024x7168 .bf16) : Vec Ideal S512x4096 .bf16 := fun y =>
  have h0 : (y 0).val < 512 := (y 0).isLt
  have h1 : (y 1).val < 4096 := (y 1).isLt
  proj (fun k => B (ix2 ⟨(y 0).val, h0⟩ k)) w ⟨3072 + (y 1).val, by omega⟩

/-- Weights of 512 columns, at an entry. -/
theorem cols_apply (w : Vec Ideal S1024x7168 .bf16) (cw : ℕ) (inb) (k : Fin 1024) (j : Fin 512) (hc : cw + 512 ≤ 7168) :
    View.ld w (Rect.unit ![0, cw] ![1024, 512] inb) (ix2 k j) = w (ix2 k ⟨cw + j, by omega⟩) := by
  refine View.ld_unit_apply_of _ _ _ _ _ _ fun a => ?_
  fin_cases a <;> simp

theorem table_apply (C : Vec Ideal S512x128 .f32) (inb) (r : Fin 512) (l : Fin 128) :
    View.ld C (Rect.unit ![0, 0] ![512, 128] inb) (ix2 r l) = C (ix2 r l) := by
  refine View.ld_unit_apply_of _ _ _ _ _ _ fun a => ?_
  fin_cases a <;> simp

/-- A tile's products are the projection's. -/
theorem sum_eq (B : Vec Ideal S512x1024 .f32) (X : FVec Ideal S512x1024 .bf16) (hX : ∀ r k, X (ix2 r k) = B (ix2 r k)) (w : Vec Ideal S1024x7168 .bf16)
    (cw : ℕ) (inb) (hc : cw + 512 ≤ 7168) (r : Fin 512) (j : Fin 512) (e : Fin 7168) (he : e.val = cw + j.val) :
    ∑ k : Fin 1024, X (ix2 r k) * (View.ld w (Rect.unit ![0, cw] ![1024, 512] inb) : Vec Ideal S1024x512 .bf16) (ix2 k j) = proj (fun k => B (ix2 r k)) w e := by
  unfold proj
  refine Finset.sum_congr rfl fun k _ => ?_
  rw [hX]
  refine congrArg (fun z => B (ix2 r k) * z) ((cols_apply w cw inb k j hc).trans ?_)
  exact congrArg (fun e => w (ix2 k e)) (Fin.ext he.symm)

theorem turn_congr {a a' c c' s s' : Fin 128 → EReal} {l l' : Fin 128} (ha : a = a') (hc : c = c') (hs : s = s') (hl : l = l') :
    turn a c s l = turn a' c' s' l' := by subst ha hc hs hl; rfl

theorem qtile (B : Vec Ideal S512x1024 .f32) (X : FVec Ideal S512x1024 .bf16) (hX : ∀ r k, X (ix2 r k) = B (ix2 r k)) (w : Vec Ideal S1024x7168 .bf16)
    (C S : Vec Ideal S512x128 .f32) (inb' inb'') (cw o : ℕ) (inb) (h : S512x512.Slices ![0, o] S512x128) (ho : o + 128 ≤ 512)
    (hc : cw + 512 ≤ 7168) (hm : (cw + o) % 128 = 0) (hq : cw + o + 128 ≤ 1024) (y : S512x3072.Idx) (x : S512x128.Idx)
    (h0 : (y 0).val = (x 0).val) (h1 : (y 1).val = cw + o + (x 1).val) :
    qTile (F := Ideal) (View.ld C (Rect.unit ![0, 0] ![512, 128] inb')) (View.ld S (Rect.unit ![0, 0] ![512, 128] inb'')) X
      (View.ld w (Rect.unit ![0, cw] ![1024, 512] inb)) o h x = qkvBlock B w C S y := by
  obtain ⟨r, l, rfl⟩ : ∃ (r : Fin 512) (l : Fin 128), x = ix2 r l := ⟨x 0, x 1, eq_ix2 x⟩
  have e0 : (y 0).val = r.val := h0
  have e1 : (y 1).val = cw + o + l.val := h1
  obtain ⟨r', l', rfl⟩ : ∃ (r : Fin 512) (l : Fin 3072), y = ix2 r l := ⟨y 0, y 1, eq_ix2 y⟩
  obtain rfl : r' = r := Fin.ext e0
  have e2 : l'.val = cw + o + l.val := e1
  rw [qTile_apply _ _ _ _ _ _ ho]
  unfold qkvBlock qkvRow
  refine Eq.trans ?_ (if_pos (show l'.val < 1024 by omega)).symm
  have el : (⟨l'.val % 128, by omega⟩ : Fin 128) = l := Fin.ext (by show l'.val % 128 = l.val; omega)
  refine congrArg (fun z => z * scale) ?_
  refine turn_congr (funext fun j => ?_) (funext fun j => table_apply C inb' r' j) (funext fun j => table_apply S inb'' r' j) el.symm
  exact sum_eq B X hX w cw inb hc _ _ _ (by show 128 * (l'.val / 128) + j.val = cw + (o + j.val); omega)

theorem ktile (B : Vec Ideal S512x1024 .f32) (X : FVec Ideal S512x1024 .bf16) (hX : ∀ r k, X (ix2 r k) = B (ix2 r k)) (w : Vec Ideal S1024x7168 .bf16)
    (C S : Vec Ideal S512x128 .f32) (inb' inb'') (cw o : ℕ) (inb) (h : S512x512.Slices ![0, o] S512x128) (ho : o + 128 ≤ 512)
    (hc : cw + 512 ≤ 7168) (hm : (cw + o) % 128 = 0) (hk : 1024 ≤ cw + o) (hq : cw + o + 128 ≤ 2048) (y : S512x3072.Idx) (x : S512x128.Idx)
    (h0 : (y 0).val = (x 0).val) (h1 : (y 1).val = cw + o + (x 1).val) :
    kTile (F := Ideal) (View.ld C (Rect.unit ![0, 0] ![512, 128] inb')) (View.ld S (Rect.unit ![0, 0] ![512, 128] inb'')) X
      (View.ld w (Rect.unit ![0, cw] ![1024, 512] inb)) o h x = qkvBlock B w C S y := by
  obtain ⟨r, l, rfl⟩ : ∃ (r : Fin 512) (l : Fin 128), x = ix2 r l := ⟨x 0, x 1, eq_ix2 x⟩
  have e0 : (y 0).val = r.val := h0
  have e1 : (y 1).val = cw + o + l.val := h1
  obtain ⟨r', l', rfl⟩ : ∃ (r : Fin 512) (l : Fin 3072), y = ix2 r l := ⟨y 0, y 1, eq_ix2 y⟩
  obtain rfl : r' = r := Fin.ext e0
  have e2 : l'.val = cw + o + l.val := e1
  rw [kTile_apply _ _ _ _ _ _ ho]
  unfold qkvBlock qkvRow
  refine Eq.trans ?_ ((if_neg (show ¬ l'.val < 1024 by omega)).trans (if_pos (show l'.val < 2048 by omega))).symm
  have el : (⟨l'.val % 128, by omega⟩ : Fin 128) = l := Fin.ext (by show l'.val % 128 = l.val; omega)
  refine turn_congr (funext fun j => ?_) (funext fun j => table_apply C inb' r' j) (funext fun j => table_apply S inb'' r' j) el.symm
  exact sum_eq B X hX w cw inb hc _ _ _ (by show 128 * (l'.val / 128) + j.val = cw + (o + j.val); omega)

theorem vtile (B : Vec Ideal S512x1024 .f32) (X : FVec Ideal S512x1024 .bf16) (hX : ∀ r k, X (ix2 r k) = B (ix2 r k)) (w : Vec Ideal S1024x7168 .bf16)
    (C S : Vec Ideal S512x128 .f32) (cw o : ℕ) (inb) (h : S512x512.Slices ![0, o] S512x128) (ho : o + 128 ≤ 512)
    (hc : cw + 512 ≤ 7168) (hk : 2048 ≤ cw + o) (y : S512x3072.Idx) (x : S512x128.Idx)
    (h0 : (y 0).val = (x 0).val) (h1 : (y 1).val = cw + o + (x 1).val) :
    vTile (F := Ideal) X (View.ld w (Rect.unit ![0, cw] ![1024, 512] inb)) o h x = qkvBlock B w C S y := by
  obtain ⟨r, l, rfl⟩ : ∃ (r : Fin 512) (l : Fin 128), x = ix2 r l := ⟨x 0, x 1, eq_ix2 x⟩
  have e0 : (y 0).val = r.val := h0
  have e1 : (y 1).val = cw + o + l.val := h1
  obtain ⟨r', l', rfl⟩ : ∃ (r : Fin 512) (l : Fin 3072), y = ix2 r l := ⟨y 0, y 1, eq_ix2 y⟩
  obtain rfl : r' = r := Fin.ext e0
  have e2 : l'.val = cw + o + l.val := e1
  rw [vTile_apply _ _ _ _ ho]
  unfold qkvBlock qkvRow
  refine Eq.trans ?_ ((if_neg (show ¬ l'.val < 1024 by omega)).trans (if_neg (show ¬ l'.val < 2048 by omega))).symm
  exact sum_eq B X hX w cw inb hc _ _ _ (by show l'.val = cw + (o + l.val); omega)

theorem rtile (B : Vec Ideal S512x1024 .f32) (X : FVec Ideal S512x1024 .bf16) (hX : ∀ r k, X (ix2 r k) = B (ix2 r k)) (w : Vec Ideal S1024x7168 .bf16)
    (cw o : ℕ) (inb) (h : S512x512.Slices ![0, o] S512x128) (ho : o + 128 ≤ 512) (hc : cw + 512 ≤ 7168) (y : S512x4096.Idx) (x : S512x128.Idx)
    (h0 : (y 0).val = (x 0).val) (h1 : 3072 + (y 1).val = cw + o + (x 1).val) :
    vTile (F := Ideal) X (View.ld w (Rect.unit ![0, cw] ![1024, 512] inb)) o h x = restBlock B w y := by
  obtain ⟨r, l, rfl⟩ : ∃ (r : Fin 512) (l : Fin 128), x = ix2 r l := ⟨x 0, x 1, eq_ix2 x⟩
  have e0 : (y 0).val = r.val := h0
  have e1 : 3072 + (y 1).val = cw + o + l.val := h1
  obtain ⟨r', l', rfl⟩ : ∃ (r : Fin 512) (l : Fin 4096), y = ix2 r l := ⟨y 0, y 1, eq_ix2 y⟩
  obtain rfl : r' = r := Fin.ext e0
  have e2 : 3072 + l'.val = cw + o + l.val := e1
  rw [vTile_apply _ _ _ _ ho]
  unfold restBlock
  exact sum_eq B X hX w cw inb hc _ _ _ (by show 3072 + l'.val = cw + (o + l.val); omega)

end Cert.Kernel2Ideal.Inproj

end
-- ==== Proof.First.Block.lean ====
/-
  The blocks that one grid point of the first layer's projection leaves.
-/
module

public import proofs.«01_k».proof.Proof.Inproj.Tile
public import proofs.«01_k».proof.Proof.Gen.Kernel5Ideal.Frame

@[expose] public section

noncomputable section

namespace Cert.Kernel5Ideal.First

open Cert.Inproj Cert.Kernel2Ideal.Inproj Cert.Kernel5Ideal Cert.Kernel5Ideal.Gen Idealize.ShloMosaic Idealize.ShloMosaic.TcCoe Idealize.SL.Sem

/-- The rows at a grid point: prompts first, samples from the 64th point on. -/
def rowsX (i : grid0.Coords) (x0 x1 : Vec Ideal S512x1024 .f32) : Vec Ideal S512x1024 .f32 := fun y => if (i 0).val < 64 then x0 y else x1 y

set_option maxRecDepth 16384
set_option maxHeartbeats 4000000

theorem early : ∀ n : Fin 192, Scalar.cmpi .slt (BitVec.ofNat 32 n.val) 64#32 = if n.val < 64 then 1#1 else 0#1 := by decide +kernel

theorem whole_apply (x : Vec Ideal S512x1024 .f32) (inb) (r : Fin 512) (k : Fin 1024) :
    View.ld x (Rect.unit ![0, 0] ![512, 1024] inb) (ix2 r k) = x (ix2 r k) := by
  refine View.ld_unit_apply_of _ _ _ _ _ _ fun a => ?_
  fin_cases a <;> simp

/-- The rows that a grid point takes. -/
theorem rows_apply (i : grid0.Coords) (x0 x1 : Vec Ideal S512x1024 .f32) (r : Fin 512) (k : Fin 1024) :
    k0_pay5 (F := Ideal) i (View.ld x0 r0_0) (View.ld x1 r0_0) (ix2 r k) = rowsX i x0 x1 (ix2 r k) := by
  have h := early ⟨(i 0).val, (i 0).isLt⟩
  dsimp only at h
  unfold k0_pay5 rowsX
  dsimp only
  rw [h]
  by_cases hi : (i 0).val < 64
  · rw [if_pos hi, if_pos hi]
    refine Eq.trans ?_ (whole_apply x0 (by decide) r k)
    pointwise
  · rw [if_neg hi, if_neg hi]
    refine Eq.trans ?_ (whole_apply x1 (by decide) r k)
    pointwise

/-- What a grid point leaves in the stream's block. -/
theorem out5_eq (i : grid0.Coords) (x0 x1 : Vec Ideal S512x1024 .f32) (x2 : Vec Ideal S1024x7168 .bf16) (x3 x4 : Vec Ideal S512x128 .f32) :
    out0_5 i x0 x1 x2 x3 x4 = rowsX i x0 x1 := by
  funext y
  unfold_out out0_5
  canon_tiles x h
  obtain ⟨r, e, rfl⟩ : ∃ (r : Fin 512) (e : Fin 1024), x = ix2 r e := ⟨x 0, x 1, eq_ix2 x⟩
  refine (rows_apply i x0 x1 r e).trans ?_
  refine congrArg (rowsX i x0 x1) (funext fun a => Fin.ext ?_)
  fin_cases a <;> dsimp at * <;> omega

/-- What a grid point leaves in the block of queries, keys and values. -/
theorem out6_eq (i : grid0.Coords) (x0 x1 : Vec Ideal S512x1024 .f32) (x2 : Vec Ideal S1024x7168 .bf16) (x3 x4 : Vec Ideal S512x128 .f32) :
    out0_6 i x0 x1 x2 x3 x4 = qkvBlock (rowsX i x0 x1) x2 x3 x4 := by
  have hX := rows_apply i x0 x1
  funext y
  unfold_out out0_6
  canon_tiles x h
  case piece0 => exact vtile (rowsX i x0 x1) (k0_pay6 i (View.ld x0 r0_0) (View.ld x1 r0_0)) hX x2 x3 x4 2560 384 _ slices_S512x512_o0_384_S512x128 (by decide) (by decide) (by decide) y x (by omega) (by omega)
  case piece1 => exact vtile (rowsX i x0 x1) (k0_pay6 i (View.ld x0 r0_0) (View.ld x1 r0_0)) hX x2 x3 x4 2560 256 _ slices_S512x512_o0_256_S512x128 (by decide) (by decide) (by decide) y x (by omega) (by omega)
  case piece2 => exact vtile (rowsX i x0 x1) (k0_pay6 i (View.ld x0 r0_0) (View.ld x1 r0_0)) hX x2 x3 x4 2560 128 _ slices_S512x512_o0_128_S512x128 (by decide) (by decide) (by decide) y x (by omega) (by omega)
  case piece3 => exact vtile (rowsX i x0 x1) (k0_pay6 i (View.ld x0 r0_0) (View.ld x1 r0_0)) hX x2 x3 x4 2560 0 _ slices_S512x512_o0_0_S512x128 (by decide) (by decide) (by decide) y x (by omega) (by omega)
  case piece4 => exact vtile (rowsX i x0 x1) (k0_pay6 i (View.ld x0 r0_0) (View.ld x1 r0_0)) hX x2 x3 x4 2048 384 _ slices_S512x512_o0_384_S512x128 (by decide) (by decide) (by decide) y x (by omega) (by omega)
  case piece5 => exact vtile (rowsX i x0 x1) (k0_pay6 i (View.ld x0 r0_0) (View.ld x1 r0_0)) hX x2 x3 x4 2048 256 _ slices_S512x512_o0_256_S512x128 (by decide) (by decide) (by decide) y x (by omega) (by omega)
  case piece6 => exact vtile (rowsX i x0 x1) (k0_pay6 i (View.ld x0 r0_0) (View.ld x1 r0_0)) hX x2 x3 x4 2048 128 _ slices_S512x512_o0_128_S512x128 (by decide) (by decide) (by decide) y x (by omega) (by omega)
  case piece7 => exact vtile (rowsX i x0 x1) (k0_pay6 i (View.ld x0 r0_0) (View.ld x1 r0_0)) hX x2 x3 x4 2048 0 _ slices_S512x512_o0_0_S512x128 (by decide) (by decide) (by decide) y x (by omega) (by omega)
  case piece8 => exact ktile (rowsX i x0 x1) (k0_pay6 i (View.ld x0 r0_0) (View.ld x1 r0_0)) hX x2 x3 x4 _ _ 1536 384 _ slices_S512x512_o0_384_S512x128 (by decide) (by decide) (by decide) (by decide) (by decide) y x (by omega) (by omega)
  case piece9 => exact ktile (rowsX i x0 x1) (k0_pay6 i (View.ld x0 r0_0) (View.ld x1 r0_0)) hX x2 x3 x4 _ _ 1536 256 _ slices_S512x512_o0_256_S512x128 (by decide) (by decide) (by decide) (by decide) (by decide) y x (by omega) (by omega)
  case piece10 => exact ktile (rowsX i x0 x1) (k0_pay6 i (View.ld x0 r0_0) (View.ld x1 r0_0)) hX x2 x3 x4 _ _ 1536 128 _ slices_S512x512_o0_128_S512x128 (by decide) (by decide) (by decide) (by decide) (by decide) y x (by omega) (by omega)
  case piece11 => exact ktile (rowsX i x0 x1) (k0_pay6 i (View.ld x0 r0_0) (View.ld x1 r0_0)) hX x2 x3 x4 _ _ 1536 0 _ slices_S512x512_o0_0_S512x128 (by decide) (by decide) (by decide) (by decide) (by decide) y x (by omega) (by omega)
  case piece12 => exact ktile (rowsX i x0 x1) (k0_pay6 i (View.ld x0 r0_0) (View.ld x1 r0_0)) hX x2 x3 x4 _ _ 1024 384 _ slices_S512x512_o0_384_S512x128 (by decide) (by decide) (by decide) (by decide) (by decide) y x (by omega) (by omega)
  case piece13 => exact ktile (rowsX i x0 x1) (k0_pay6 i (View.ld x0 r0_0) (View.ld x1 r0_0)) hX x2 x3 x4 _ _ 1024 256 _ slices_S512x512_o0_256_S512x128 (by decide) (by decide) (by decide) (by decide) (by decide) y x (by omega) (by omega)
  case piece14 => exact ktile (rowsX i x0 x1) (k0_pay6 i (View.ld x0 r0_0) (View.ld x1 r0_0)) hX x2 x3 x4 _ _ 1024 128 _ slices_S512x512_o0_128_S512x128 (by decide) (by decide) (by decide) (by decide) (by decide) y x (by omega) (by omega)
  case piece15 => exact ktile (rowsX i x0 x1) (k0_pay6 i (View.ld x0 r0_0) (View.ld x1 r0_0)) hX x2 x3 x4 _ _ 1024 0 _ slices_S512x512_o0_0_S512x128 (by decide) (by decide) (by decide) (by decide) (by decide) y x (by omega) (by omega)
  case piece16 => exact qtile (rowsX i x0 x1) (k0_pay6 i (View.ld x0 r0_0) (View.ld x1 r0_0)) hX x2 x3 x4 _ _ 512 384 _ slices_S512x512_o0_384_S512x128 (by decide) (by decide) (by decide) (by decide) y x (by omega) (by omega)
  case piece17 => exact qtile (rowsX i x0 x1) (k0_pay6 i (View.ld x0 r0_0) (View.ld x1 r0_0)) hX x2 x3 x4 _ _ 512 256 _ slices_S512x512_o0_256_S512x128 (by decide) (by decide) (by decide) (by decide) y x (by omega) (by omega)
  case piece18 => exact qtile (rowsX i x0 x1) (k0_pay6 i (View.ld x0 r0_0) (View.ld x1 r0_0)) hX x2 x3 x4 _ _ 512 128 _ slices_S512x512_o0_128_S512x128 (by decide) (by decide) (by decide) (by decide) y x (by omega) (by omega)
  case piece19 => exact qtile (rowsX i x0 x1) (k0_pay6 i (View.ld x0 r0_0) (View.ld x1 r0_0)) hX x2 x3 x4 _ _ 512 0 _ slices_S512x512_o0_0_S512x128 (by decide) (by decide) (by decide) (by decide) y x (by omega) (by omega)
  case piece20 => exact qtile (rowsX i x0 x1) (k0_pay6 i (View.ld x0 r0_0) (View.ld x1 r0_0)) hX x2 x3 x4 _ _ 0 384 _ slices_S512x512_o0_384_S512x128 (by decide) (by decide) (by decide) (by decide) y x (by omega) (by omega)
  case piece21 => exact qtile (rowsX i x0 x1) (k0_pay6 i (View.ld x0 r0_0) (View.ld x1 r0_0)) hX x2 x3 x4 _ _ 0 256 _ slices_S512x512_o0_256_S512x128 (by decide) (by decide) (by decide) (by decide) y x (by omega) (by omega)
  case piece22 => exact qtile (rowsX i x0 x1) (k0_pay6 i (View.ld x0 r0_0) (View.ld x1 r0_0)) hX x2 x3 x4 _ _ 0 128 _ slices_S512x512_o0_128_S512x128 (by decide) (by decide) (by decide) (by decide) y x (by omega) (by omega)
  case piece23 => exact qtile (rowsX i x0 x1) (k0_pay6 i (View.ld x0 r0_0) (View.ld x1 r0_0)) hX x2 x3 x4 _ _ 0 0 _ slices_S512x512_o0_0_S512x128 (by decide) (by decide) (by decide) (by decide) y x (by omega) (by omega)

/-- What a grid point leaves in the block of the other products. -/
theorem out7_eq (i : grid0.Coords) (x0 x1 : Vec Ideal S512x1024 .f32) (x2 : Vec Ideal S1024x7168 .bf16) (x3 x4 : Vec Ideal S512x128 .f32) :
    out0_7 i x0 x1 x2 x3 x4 = restBlock (rowsX i x0 x1) x2 := by
  have hX := rows_apply i x0 x1
  funext y
  unfold_out out0_7
  canon_tiles x h
  case piece0 => exact rtile (rowsX i x0 x1) (k0_pay6 i (View.ld x0 r0_0) (View.ld x1 r0_0)) hX x2 6656 384 _ slices_S512x512_o0_384_S512x128 (by decide) (by decide) y x (by omega) (by omega)
  case piece1 => exact rtile (rowsX i x0 x1) (k0_pay6 i (View.ld x0 r0_0) (View.ld x1 r0_0)) hX x2 6656 256 _ slices_S512x512_o0_256_S512x128 (by decide) (by decide) y x (by omega) (by omega)
  case piece2 => exact rtile (rowsX i x0 x1) (k0_pay6 i (View.ld x0 r0_0) (View.ld x1 r0_0)) hX x2 6656 128 _ slices_S512x512_o0_128_S512x128 (by decide) (by decide) y x (by omega) (by omega)
  case piece3 => exact rtile (rowsX i x0 x1) (k0_pay6 i (View.ld x0 r0_0) (View.ld x1 r0_0)) hX x2 6656 0 _ slices_S512x512_o0_0_S512x128 (by decide) (by decide) y x (by omega) (by omega)
  case piece4 => exact rtile (rowsX i x0 x1) (k0_pay6 i (View.ld x0 r0_0) (View.ld x1 r0_0)) hX x2 6144 384 _ slices_S512x512_o0_384_S512x128 (by decide) (by decide) y x (by omega) (by omega)
  case piece5 => exact rtile (rowsX i x0 x1) (k0_pay6 i (View.ld x0 r0_0) (View.ld x1 r0_0)) hX x2 6144 256 _ slices_S512x512_o0_256_S512x128 (by decide) (by decide) y x (by omega) (by omega)
  case piece6 => exact rtile (rowsX i x0 x1) (k0_pay6 i (View.ld x0 r0_0) (View.ld x1 r0_0)) hX x2 6144 128 _ slices_S512x512_o0_128_S512x128 (by decide) (by decide) y x (by omega) (by omega)
  case piece7 => exact rtile (rowsX i x0 x1) (k0_pay6 i (View.ld x0 r0_0) (View.ld x1 r0_0)) hX x2 6144 0 _ slices_S512x512_o0_0_S512x128 (by decide) (by decide) y x (by omega) (by omega)
  case piece8 => exact rtile (rowsX i x0 x1) (k0_pay6 i (View.ld x0 r0_0) (View.ld x1 r0_0)) hX x2 5632 384 _ slices_S512x512_o0_384_S512x128 (by decide) (by decide) y x (by omega) (by omega)
  case piece9 => exact rtile (rowsX i x0 x1) (k0_pay6 i (View.ld x0 r0_0) (View.ld x1 r0_0)) hX x2 5632 256 _ slices_S512x512_o0_256_S512x128 (by decide) (by decide) y x (by omega) (by omega)
  case piece10 => exact rtile (rowsX i x0 x1) (k0_pay6 i (View.ld x0 r0_0) (View.ld x1 r0_0)) hX x2 5632 128 _ slices_S512x512_o0_128_S512x128 (by decide) (by decide) y x (by omega) (by omega)
  case piece11 => exact rtile (rowsX i x0 x1) (k0_pay6 i (View.ld x0 r0_0) (View.ld x1 r0_0)) hX x2 5632 0 _ slices_S512x512_o0_0_S512x128 (by decide) (by decide) y x (by omega) (by omega)
  case piece12 => exact rtile (rowsX i x0 x1) (k0_pay6 i (View.ld x0 r0_0) (View.ld x1 r0_0)) hX x2 5120 384 _ slices_S512x512_o0_384_S512x128 (by decide) (by decide) y x (by omega) (by omega)
  case piece13 => exact rtile (rowsX i x0 x1) (k0_pay6 i (View.ld x0 r0_0) (View.ld x1 r0_0)) hX x2 5120 256 _ slices_S512x512_o0_256_S512x128 (by decide) (by decide) y x (by omega) (by omega)
  case piece14 => exact rtile (rowsX i x0 x1) (k0_pay6 i (View.ld x0 r0_0) (View.ld x1 r0_0)) hX x2 5120 128 _ slices_S512x512_o0_128_S512x128 (by decide) (by decide) y x (by omega) (by omega)
  case piece15 => exact rtile (rowsX i x0 x1) (k0_pay6 i (View.ld x0 r0_0) (View.ld x1 r0_0)) hX x2 5120 0 _ slices_S512x512_o0_0_S512x128 (by decide) (by decide) y x (by omega) (by omega)
  case piece16 => exact rtile (rowsX i x0 x1) (k0_pay6 i (View.ld x0 r0_0) (View.ld x1 r0_0)) hX x2 4608 384 _ slices_S512x512_o0_384_S512x128 (by decide) (by decide) y x (by omega) (by omega)
  case piece17 => exact rtile (rowsX i x0 x1) (k0_pay6 i (View.ld x0 r0_0) (View.ld x1 r0_0)) hX x2 4608 256 _ slices_S512x512_o0_256_S512x128 (by decide) (by decide) y x (by omega) (by omega)
  case piece18 => exact rtile (rowsX i x0 x1) (k0_pay6 i (View.ld x0 r0_0) (View.ld x1 r0_0)) hX x2 4608 128 _ slices_S512x512_o0_128_S512x128 (by decide) (by decide) y x (by omega) (by omega)
  case piece19 => exact rtile (rowsX i x0 x1) (k0_pay6 i (View.ld x0 r0_0) (View.ld x1 r0_0)) hX x2 4608 0 _ slices_S512x512_o0_0_S512x128 (by decide) (by decide) y x (by omega) (by omega)
  case piece20 => exact rtile (rowsX i x0 x1) (k0_pay6 i (View.ld x0 r0_0) (View.ld x1 r0_0)) hX x2 4096 384 _ slices_S512x512_o0_384_S512x128 (by decide) (by decide) y x (by omega) (by omega)
  case piece21 => exact rtile (rowsX i x0 x1) (k0_pay6 i (View.ld x0 r0_0) (View.ld x1 r0_0)) hX x2 4096 256 _ slices_S512x512_o0_256_S512x128 (by decide) (by decide) y x (by omega) (by omega)
  case piece22 => exact rtile (rowsX i x0 x1) (k0_pay6 i (View.ld x0 r0_0) (View.ld x1 r0_0)) hX x2 4096 128 _ slices_S512x512_o0_128_S512x128 (by decide) (by decide) y x (by omega) (by omega)
  case piece23 => exact rtile (rowsX i x0 x1) (k0_pay6 i (View.ld x0 r0_0) (View.ld x1 r0_0)) hX x2 4096 0 _ slices_S512x512_o0_0_S512x128 (by decide) (by decide) y x (by omega) (by omega)
  case piece24 => exact rtile (rowsX i x0 x1) (k0_pay6 i (View.ld x0 r0_0) (View.ld x1 r0_0)) hX x2 3584 384 _ slices_S512x512_o0_384_S512x128 (by decide) (by decide) y x (by omega) (by omega)
  case piece25 => exact rtile (rowsX i x0 x1) (k0_pay6 i (View.ld x0 r0_0) (View.ld x1 r0_0)) hX x2 3584 256 _ slices_S512x512_o0_256_S512x128 (by decide) (by decide) y x (by omega) (by omega)
  case piece26 => exact rtile (rowsX i x0 x1) (k0_pay6 i (View.ld x0 r0_0) (View.ld x1 r0_0)) hX x2 3584 128 _ slices_S512x512_o0_128_S512x128 (by decide) (by decide) y x (by omega) (by omega)
  case piece27 => exact rtile (rowsX i x0 x1) (k0_pay6 i (View.ld x0 r0_0) (View.ld x1 r0_0)) hX x2 3584 0 _ slices_S512x512_o0_0_S512x128 (by decide) (by decide) y x (by omega) (by omega)
  case piece28 => exact rtile (rowsX i x0 x1) (k0_pay6 i (View.ld x0 r0_0) (View.ld x1 r0_0)) hX x2 3072 384 _ slices_S512x512_o0_384_S512x128 (by decide) (by decide) y x (by omega) (by omega)
  case piece29 => exact rtile (rowsX i x0 x1) (k0_pay6 i (View.ld x0 r0_0) (View.ld x1 r0_0)) hX x2 3072 256 _ slices_S512x512_o0_256_S512x128 (by decide) (by decide) y x (by omega) (by omega)
  case piece30 => exact rtile (rowsX i x0 x1) (k0_pay6 i (View.ld x0 r0_0) (View.ld x1 r0_0)) hX x2 3072 128 _ slices_S512x512_o0_128_S512x128 (by decide) (by decide) y x (by omega) (by omega)
  case piece31 => exact rtile (rowsX i x0 x1) (k0_pay6 i (View.ld x0 r0_0) (View.ld x1 r0_0)) hX x2 3072 0 _ slices_S512x512_o0_0_S512x128 (by decide) (by decide) y x (by omega) (by omega)

end Cert.Kernel5Ideal.First

end
-- ==== Proof.Inproj.Table.lean ====
/-
  The cosines and sines that the projection takes, entry by entry.
-/
module

public import proofs.«01_k».proof.Proof.Inproj.Math
public import proofs.«01_k».proof.Proof.Gen.Kernel2Ideal.Value
public import Idealize.ShloMosaic.Lib.StableHlo.Run
public import Idealize.ShloMosaic.Lib.Tactic.CleanTypes

@[expose] public section

noncomputable section

namespace Cert.Kernel2Ideal.Inproj

open Cert.Kernel2Ideal Cert.Kernel2Ideal.Gen Cert.Kernel2Ideal.Value Idealize.ShloMosaic Idealize.ShloMosaic.TcCoe Idealize.SL.Sem

section Defs
variable {F : FTy → Type} [FloatOps F]

/-- The angles of 2048 positions and 32 frequencies. -/
def angles : FVec F S2048x32 .f32 :=
  mulf (broadcastInDim S2048x32 ![0, 1] bcast_S2048x1_S2048x32_0_1 (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1
      (Host.powf (broadcastInDim S32 ![] bcast_S_S32 (constant S_ .f32 0x461C4000#32))
        (mulf (Host.negf (sitofp .f32 (iotaInDim S32 32 0))) (broadcastInDim S32 ![] bcast_S_S32 (constant S_ .f32 0x3D000000#32))))))

/-- A table of 32 columns, four times. -/
def tiled (t : FVec F S2048x32 .f32) : FVec F S2048x128 .f32 :=
  shapeCast S2048x128 (broadcastInDim S1x2048x4x32 ![0, 1, 2, 3] bcast_S1x2048x1x32_S1x2048x4x32_0_1_2_3
    (shapeCast S1x2048x1x32 t shapeCasts_S2048x32_S1x2048x1x32)) shapeCasts_S1x2048x4x32_S2048x128

/-- The length of a map, or 1 where it is 0. -/
def width : IVec S_ 32 := select (cmpi .eq (id (constantI S_ 32 64#32)) (constantI S_ 32 0#32)) (constantI S_ 32 1#32) (id (constantI S_ 32 64#32))

/-- The remainders of the lanes. -/
def left : IVec S128 32 := Host.remsi (iotaInDim S128 32 0) (broadcastInDim S128 ![] bcast_S_S128 width)

/-- The lane within its map. -/
def within : IVec S128 32 :=
  select (andi (cmpi .ne (cmpi .slt left (broadcastInDim S128 ![] bcast_S_S128 (constantI S_ 32 0#32)))
      (broadcastInDim S128 ![] bcast_S_S128 (cmpi .slt width (constantI S_ 32 0#32)))) (cmpi .ne left (broadcastInDim S128 ![] bcast_S_S128 (constantI S_ 32 0#32))))
    (addi left (broadcastInDim S128 ![] bcast_S_S128 width)) left

/-- Where a lane lies in its map's first half. -/
def first : IVec S128 1 := cmpi .slt within (broadcastInDim S128 ![] bcast_S_S128 (constantI S_ 32 32#32))

/-- The signs of the sines. -/
def signs : FVec F S128 .f32 :=
  id (select first (broadcastInDim S128 ![] bcast_S_S128 (constant S_ .f32 0xBF800000#32)) (broadcastInDim S128 ![] bcast_S_S128 (constant S_ .f32 0x3F800000#32)))

/-- The sines with their signs. -/
def signed : FVec F S2048x128 .f32 :=
  mulf (tiled (Host.sin angles)) (broadcastInDim S2048x128 ![0, 1] bcast_S1x128_S2048x128_0_1 (broadcastInDim S1x128 ![1] bcast_S128_S1x128_1 signs))

end Defs

variable (m : (ℓ : Loc nD τ sig) → Buf (Elt Ideal) ℓ)

set_option maxRecDepth 16384
set_option maxHeartbeats 4000000

theorem tiled_apply (t : FVec Ideal S2048x32 .f32) (p : Fin 2048) (l : Fin 128) : tiled t (ix2 p l) = t (ix2 p ⟨l % 32, by omega⟩) := by
  pointwise [tiled]

theorem first_apply : ∀ l : Fin 128, first (ix1 l) = if l.val % 64 < 32 then 1#1 else 0#1 := by decide +kernel

theorem minus_one : Ideal.ofBits .f32 0xBF800000#32 = -1 := by
  simp [Ideal.ofBits, Ideal.ieee, -EReal.coe_mul]; norm_num

theorem plus_one : Ideal.ofBits .f32 0x3F800000#32 = 1 := by
  simp [Ideal.ofBits, Ideal.ieee, -EReal.coe_mul]; norm_num

theorem signs_apply (l : Fin 128) : (signs : FVec Ideal S128 .f32) (ix1 l) = if l.val % 64 < 32 then -1 else 1 := by
  show Scalar.select (first (ix1 l)) (Ideal.ofBits .f32 0xBF800000#32) (Ideal.ofBits .f32 0x3F800000#32) = _
  rw [first_apply, minus_one, plus_one]
  split_ifs <;> rfl

theorem signed_apply (p : Fin 2048) (l : Fin 128) :
    (signed : FVec Ideal S2048x128 .f32) (ix2 p l) = Host.sin (F := Ideal) angles (ix2 p ⟨l % 32, by omega⟩) * if l.val % 64 < 32 then -1 else 1 := by
  rw [← signs_apply, ← tiled_apply (Host.sin angles) p l]
  unfold signed
  pointwise

theorem cos_table (c : Dev nD) : (V m c main_v15 : Vec Ideal S2048x128 .f32) = (tiled (Host.cos angles) : FVec Ideal S2048x128 .f32) := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.cons_append, List.nil_append, List.append_nil]
  after_results_simp
  clean_types
  rfl

theorem sin_table (c : Dev nD) : (V m c main_v28 : Vec Ideal S2048x128 .f32) = (signed : FVec Ideal S2048x128 .f32) := by
  show StableHlo.after (List.flatten [hostOps0, hostOps0_1, hostOps0_2, hostOps0_3, hostOps0_4]) (fun b => m (c, b)) (Proc.devRef .tc main_v28) = _
  simp only [hostOps0, hostOps0_1, hostOps0_2, hostOps0_3, hostOps0_4, List.flatten_cons, List.flatten_nil, List.cons_append, List.nil_append, List.append_nil]
  after_results_simp
  clean_types
  rfl

theorem weights_table (c : Dev nD) : (V m c main_v31 : Vec Ideal S1024x7168 .bf16) = (m (c.tc.loc main_arg5) : Vec Ideal S1024x7168 .f32) := by
  show StableHlo.after (List.flatten [hostOps0, hostOps0_1, hostOps0_2, hostOps0_3, hostOps0_4]) (fun b => m (c, b)) (Proc.devRef .tc main_v31) = _
  simp only [hostOps0, hostOps0_1, hostOps0_2, hostOps0_3, hostOps0_4, List.flatten_cons, List.flatten_nil, List.cons_append, List.nil_append, List.append_nil]
  after_results_simp
  clean_types
  rfl

theorem gain (c : Dev nD) (e : Fin 1024) : (V m c main_v29 : Vec Ideal S1x1024 .f32) (ix2 0 e) = (m (c.tc.loc main_arg3) : Vec Ideal S1024 .f32) (ix1 e) := by
  show StableHlo.after (List.flatten [hostOps0, hostOps0_1, hostOps0_2, hostOps0_3, hostOps0_4]) (fun b => m (c, b)) (Proc.devRef .tc main_v29) _ = _
  simp only [hostOps0, hostOps0_1, hostOps0_2, hostOps0_3, hostOps0_4, List.flatten_cons, List.flatten_nil, List.cons_append, List.nil_append, List.append_nil]
  after_results_simp
  clean_types
  pointwise

theorem offset (c : Dev nD) (e : Fin 1024) : (V m c main_v30 : Vec Ideal S1x1024 .f32) (ix2 0 e) = (m (c.tc.loc main_arg4) : Vec Ideal S1024 .f32) (ix1 e) := by
  show StableHlo.after (List.flatten [hostOps0, hostOps0_1, hostOps0_2, hostOps0_3, hostOps0_4]) (fun b => m (c, b)) (Proc.devRef .tc main_v30) _ = _
  simp only [hostOps0, hostOps0_1, hostOps0_2, hostOps0_3, hostOps0_4, List.flatten_cons, List.flatten_nil, List.cons_append, List.nil_append, List.append_nil]
  after_results_simp
  clean_types
  pointwise

end Cert.Kernel2Ideal.Inproj

end
-- ==== Proof.First.Array.lean ====
/-
  The result arrays of the first layer's projection as functions of its arguments, at the extended reals.
-/
module

public import proofs.«01_k».proof.Proof.First.Block
public import proofs.«01_k».proof.Proof.Inproj.Table
public import proofs.«01_k».proof.Proof.Gen.Kernel5Ideal.Value
public import Idealize.ShloMosaic.Lib.Pipeline.ValueKit.Geometry

@[expose] public section

noncomputable section

namespace Cert.Kernel5Ideal.First

open Cert.Inproj Cert.Kernel5Ideal Cert.Kernel5Ideal.Gen Cert.Kernel5Ideal.Value Idealize.ShloMosaic Idealize.ShloMosaic.TcCoe Idealize.SL.Sem
open Cert.Kernel2Ideal.Inproj (angles tiled signed tiled_apply signed_apply qkvBlock restBlock)

variable (m : (ℓ : Loc nD τ sig) → Buf (Elt Ideal) ℓ) (ρ : Dev nD → PrngReg)

/-- A row of the batches, prompts first. -/
def bothAt (p : Vec Ideal S16x2048x1024 .f32) (s : Vec Ideal S32x2048x1024 .f32) (n : Fin 98304) (e : Fin 1024) : EReal :=
  if h : n.val < 32768 then p (ix3 ⟨n / 2048, by omega⟩ ⟨n % 2048, by omega⟩ e) else s (ix3 ⟨n / 2048 - 16, by omega⟩ ⟨n % 2048, by omega⟩ e)

/-- A row of the call's operands. -/
def rowAt (p : Vec Ideal S32768x1024 .f32) (s : Vec Ideal S65536x1024 .f32) (n : Fin 98304) (e : Fin 1024) : EReal :=
  if h : n.val < 32768 then p (ix2 ⟨n, h⟩ e) else s (ix2 ⟨n - 32768, by omega⟩ e)

/-- The rows. -/
def wholeX (p : Vec Ideal S32768x1024 .f32) (s : Vec Ideal S65536x1024 .f32) : Vec Ideal S98304x1024 .f32 := fun i =>
  rowAt p s ⟨(i 0).val, (i 0).isLt⟩ ⟨(i 1).val, (i 1).isLt⟩

/-- The queries, keys and values, at an entry. -/
def qAt (p : Vec Ideal S32768x1024 .f32) (s : Vec Ideal S65536x1024 .f32) (w : Vec Ideal S1024x7168 .bf16) (C S : Vec Ideal S2048x128 .f32)
    (n : Fin 98304) (e : Fin 3072) : EReal :=
  qkvRow (proj (rowAt p s n) w) (fun l => C (ix2 ⟨n.val % 2048, by omega⟩ l)) (fun l => S (ix2 ⟨n.val % 2048, by omega⟩ l)) e

/-- The other products, at an entry. -/
def rAt (p : Vec Ideal S32768x1024 .f32) (s : Vec Ideal S65536x1024 .f32) (w : Vec Ideal S1024x7168 .bf16) (n : Fin 98304) (e : Fin 4096) : EReal :=
  proj (rowAt p s n) w ⟨3072 + e.val, by omega⟩

/-- The queries, keys and values. -/
def wholeQ (p : Vec Ideal S32768x1024 .f32) (s : Vec Ideal S65536x1024 .f32) (w : Vec Ideal S1024x7168 .bf16) (C S : Vec Ideal S2048x128 .f32) :
    Vec Ideal S98304x3072 .bf16 := fun i => qAt p s w C S ⟨(i 0).val, (i 0).isLt⟩ ⟨(i 1).val, (i 1).isLt⟩

/-- The other products. -/
def wholeR (p : Vec Ideal S32768x1024 .f32) (s : Vec Ideal S65536x1024 .f32) (w : Vec Ideal S1024x7168 .bf16) : Vec Ideal S98304x4096 .bf16 := fun i =>
  rAt p s w ⟨(i 0).val, (i 0).isLt⟩ ⟨(i 1).val, (i 1).isLt⟩

set_option maxRecDepth 16384
set_option maxHeartbeats 4000000

/-- Each window's block index at a grid point. -/
theorem index_facts : ∀ t : Fin cfg0.N,
    (grid0.coords t (0 : Fin 1)).val = win0_5.index t (0 : Fin 2)
    ∧ win0_0.index t (0 : Fin 2) = min (win0_5.index t (0 : Fin 2)) 63 ∧ win0_0.index t (1 : Fin 2) = 0
    ∧ win0_1.index t (0 : Fin 2) = win0_5.index t (0 : Fin 2) - 64 ∧ win0_1.index t (1 : Fin 2) = 0
    ∧ win0_2.index t (0 : Fin 2) = 0 ∧ win0_2.index t (1 : Fin 2) = 0
    ∧ win0_3.index t (0 : Fin 2) = win0_5.index t (0 : Fin 2) % 4 ∧ win0_3.index t (1 : Fin 2) = 0
    ∧ win0_4.index t (0 : Fin 2) = win0_5.index t (0 : Fin 2) % 4 ∧ win0_4.index t (1 : Fin 2) = 0
    ∧ win0_5.index t (0 : Fin 2) < 192 ∧ win0_5.index t (1 : Fin 2) = 0 :=
  (by decide +kernel : ∀ t : Fin grid0.N, _)

theorem index_facts' : ∀ t : Fin cfg0.N,
    win0_6.index t (0 : Fin 2) = win0_5.index t (0 : Fin 2) ∧ win0_6.index t (1 : Fin 2) = 0
    ∧ win0_7.index t (0 : Fin 2) = win0_5.index t (0 : Fin 2) ∧ win0_7.index t (1 : Fin 2) = 0 :=
  (by decide +kernel : ∀ t : Fin grid0.N, _)

/-- The rows of a grid point's block are rows of the operands. -/
theorem rows_eq (c : Dev nD) (t : Fin cfg0.N) (r : Fin 512) (e : Fin 1024) (n : Fin 98304) (hn : n.val = win0_5.index t (0 : Fin 2) * 512 + r.val) :
    rowsX (grid0.coords t) (iblk m c 0 t) (iblk m c 1 t) (ix2 r e) = rowAt (V m c main_v29) (V m c main_v30) n e := by
  obtain ⟨ht, a0, a0', a1, a1', _, _, _, _, _, _, hb, hh⟩ := index_facts t
  unfold rowsX rowAt
  have hr := r.isLt
  by_cases h : win0_5.index t (0 : Fin 2) < 64
  · rw [if_pos (ht.trans_lt h), dif_pos (show n.val < 32768 by omega)]
    blk_simp [iblk]
    refine congrArg (V m c main_v29) (funext fun a => Fin.ext ?_)
    match a with
    | ⟨0, _⟩ => blk_simp [a0]; try (dsimp only; omega)
    | ⟨1, _⟩ => blk_simp [a0']; try (dsimp only; omega)
  · rw [if_neg (fun h' => h (ht.symm.trans_lt h')), dif_neg (show ¬ n.val < 32768 by omega)]
    blk_simp [iblk]
    refine congrArg (V m c main_v30) (funext fun a => Fin.ext ?_)
    match a with
    | ⟨0, _⟩ => blk_simp [a1]; try (dsimp only; omega)
    | ⟨1, _⟩ => blk_simp [a1']; try (dsimp only; omega)

theorem weights_eq (c : Dev nD) (t : Fin cfg0.N) : (iblk m c 2 t : Vec Ideal S1024x7168 .bf16) = V m c main_v31 := by
  obtain ⟨_, _, _, _, _, a2, a2', _⟩ := index_facts t
  funext i
  obtain ⟨k, e, rfl⟩ : ∃ (k : Fin 1024) (e : Fin 7168), i = ix2 k e := ⟨i 0, i 1, eq_ix2 i⟩
  blk_simp [iblk]
  refine congrArg (V m c main_v31) (funext fun a => Fin.ext ?_)
  match a with
  | ⟨0, _⟩ => blk_simp [a2]
  | ⟨1, _⟩ => blk_simp [a2']

theorem cos_eq (c : Dev nD) (t : Fin cfg0.N) (r : Fin 512) (l : Fin 128) (n : Fin 98304) (hn : n.val = win0_5.index t (0 : Fin 2) * 512 + r.val) :
    (iblk m c 3 t : Vec Ideal S512x128 .f32) (ix2 r l) = (V m c main_v15 : Vec Ideal S2048x128 .f32) (ix2 ⟨n.val % 2048, by omega⟩ l) := by
  obtain ⟨_, _, _, _, _, _, _, a3, a3', _⟩ := index_facts t
  blk_simp [iblk]
  refine congrArg (V m c main_v15) (funext fun a => Fin.ext ?_)
  match a with
  | ⟨0, _⟩ => blk_simp [a3]; try (dsimp only; omega)
  | ⟨1, _⟩ => blk_simp [a3']

theorem sin_eq (c : Dev nD) (t : Fin cfg0.N) (r : Fin 512) (l : Fin 128) (n : Fin 98304) (hn : n.val = win0_5.index t (0 : Fin 2) * 512 + r.val) :
    (iblk m c 4 t : Vec Ideal S512x128 .f32) (ix2 r l) = (V m c main_v28 : Vec Ideal S2048x128 .f32) (ix2 ⟨n.val % 2048, by omega⟩ l) := by
  obtain ⟨_, _, _, _, _, _, _, _, _, a4, a4', _⟩ := index_facts t
  blk_simp [iblk]
  refine congrArg (V m c main_v28) (funext fun a => Fin.ext ?_)
  match a with
  | ⟨0, _⟩ => blk_simp [a4]; try (dsimp only; omega)
  | ⟨1, _⟩ => blk_simp [a4']

theorem finalX (c : Dev nD) : (dats m 0 c).arrAt 5 cfg0.N = wholeX (V m c main_v29) (V m c main_v30) := by
  refine (dats m 0 c).arrAt_eq_of_covers 5 _ (by decide +kernel) fun t hf y => ?_
  blk_simp
  rw [after0_5, out5_eq]
  obtain ⟨_, _, _, _, _, _, _, _, _, _, _, hb, hh⟩ := index_facts t
  obtain ⟨r, e, rfl⟩ : ∃ (r : Fin 512) (e : Fin 1024), y = ix2 r e := ⟨y 0, y 1, eq_ix2 y⟩
  unfold wholeX
  refine (rows_eq m c t r e ⟨win0_5.index t (0 : Fin 2) * 512 + r.val, by omega⟩ rfl).trans ?_
  refine congrArg₂ (rowAt _ _) (Fin.ext ?_) (Fin.ext ?_)
  · blk_simp
  · blk_simp [hh]

theorem finalQ (c : Dev nD) : (dats m 0 c).arrAt 6 cfg0.N
    = wholeQ (V m c main_v29) (V m c main_v30) (V m c main_v31) (V m c main_v15) (V m c main_v28) := by
  refine (dats m 0 c).arrAt_eq_of_covers 6 _ (by decide +kernel) fun t hf y => ?_
  blk_simp
  rw [after0_6, out6_eq]
  obtain ⟨_, _, _, _, _, _, _, _, _, _, _, hb, hh⟩ := index_facts t
  obtain ⟨a6, a6', _, _⟩ := index_facts' t
  obtain ⟨r, e, rfl⟩ : ∃ (r : Fin 512) (e : Fin 3072), y = ix2 r e := ⟨y 0, y 1, eq_ix2 y⟩
  unfold wholeQ qkvBlock
  rw [weights_eq]
  have hx := funext fun k => rows_eq m c t r k ⟨win0_5.index t (0 : Fin 2) * 512 + r.val, by omega⟩ rfl
  have hC := funext fun l => cos_eq m c t r l ⟨win0_5.index t (0 : Fin 2) * 512 + r.val, by omega⟩ rfl
  have hS := funext fun l => sin_eq m c t r l ⟨win0_5.index t (0 : Fin 2) * 512 + r.val, by omega⟩ rfl
  refine (congrArg₂ (fun x C => qkvRow (proj x (V m c main_v31)) C _ _) hx hC).trans ?_
  refine (congrArg (fun S => qkvRow (proj _ (V m c main_v31)) _ S _) hS).trans ?_
  refine congrArg₂ (qAt (V m c main_v29) (V m c main_v30) (V m c main_v31) (V m c main_v15) (V m c main_v28)) (Fin.ext ?_) (Fin.ext ?_)
  · blk_simp [a6]
  · blk_simp [a6']

theorem finalR (c : Dev nD) : (dats m 0 c).arrAt 7 cfg0.N = wholeR (V m c main_v29) (V m c main_v30) (V m c main_v31) := by
  refine (dats m 0 c).arrAt_eq_of_covers 7 _ (by decide +kernel) fun t hf y => ?_
  blk_simp
  rw [after0_7, out7_eq]
  obtain ⟨_, _, _, _, _, _, _, _, _, _, _, hb, hh⟩ := index_facts t
  obtain ⟨_, _, a7, a7'⟩ := index_facts' t
  obtain ⟨r, e, rfl⟩ : ∃ (r : Fin 512) (e : Fin 4096), y = ix2 r e := ⟨y 0, y 1, eq_ix2 y⟩
  unfold wholeR restBlock
  rw [weights_eq]
  have hx := funext fun k => rows_eq m c t r k ⟨win0_5.index t (0 : Fin 2) * 512 + r.val, by omega⟩ rfl
  refine (congrArg (fun x => proj x (V m c main_v31) _) hx).trans ?_
  refine congrArg₂ (rAt (V m c main_v29) (V m c main_v30) (V m c main_v31)) (Fin.ext ?_) (Fin.ext ?_)
  · blk_simp [a7]
  · blk_simp [a7']

theorem cos_table (c : Dev nD) : (V m c main_v15 : Vec Ideal S2048x128 .f32) = (tiled (Host.cos angles) : FVec Ideal S2048x128 .f32) := by
  show StableHlo.after (List.flatten [hostOps0, hostOps0_1, hostOps0_2, hostOps0_3, hostOps0_4]) (fun b => m (c, b)) (Proc.devRef .tc main_v15) = _
  simp only [hostOps0, hostOps0_1, hostOps0_2, hostOps0_3, hostOps0_4, List.flatten_cons, List.flatten_nil, List.cons_append, List.nil_append, List.append_nil]
  after_results_simp
  clean_types
  rfl

theorem sin_table (c : Dev nD) : (V m c main_v28 : Vec Ideal S2048x128 .f32) = (signed : FVec Ideal S2048x128 .f32) := by
  show StableHlo.after (List.flatten [hostOps0, hostOps0_1, hostOps0_2, hostOps0_3, hostOps0_4]) (fun b => m (c, b)) (Proc.devRef .tc main_v28) = _
  simp only [hostOps0, hostOps0_1, hostOps0_2, hostOps0_3, hostOps0_4, List.flatten_cons, List.flatten_nil, List.cons_append, List.nil_append, List.append_nil]
  after_results_simp
  clean_types
  rfl

theorem weights_table (c : Dev nD) : (V m c main_v31 : Vec Ideal S1024x7168 .bf16) = (m (c.tc.loc main_arg2) : Vec Ideal S1024x7168 .f32) := by
  show StableHlo.after (List.flatten [hostOps0, hostOps0_1, hostOps0_2, hostOps0_3, hostOps0_4]) (fun b => m (c, b)) (Proc.devRef .tc main_v31) = _
  simp only [hostOps0, hostOps0_1, hostOps0_2, hostOps0_3, hostOps0_4, List.flatten_cons, List.flatten_nil, List.cons_append, List.nil_append, List.append_nil]
  after_results_simp
  clean_types
  rfl

theorem prompts_apply (c : Dev nD) (n : Fin 32768) (e : Fin 1024) : (V m c main_v29 : Vec Ideal S32768x1024 .f32) (ix2 n e)
    = (m (c.tc.loc main_arg0) : Vec Ideal S16x2048x1024 .f32) (ix3 ⟨n / 2048, by omega⟩ ⟨n % 2048, by omega⟩ e) := by
  show StableHlo.after (List.flatten [hostOps0, hostOps0_1, hostOps0_2, hostOps0_3, hostOps0_4]) (fun b => m (c, b)) (Proc.devRef .tc main_v29) _ = _
  simp only [hostOps0, hostOps0_1, hostOps0_2, hostOps0_3, hostOps0_4, List.flatten_cons, List.flatten_nil, List.cons_append, List.nil_append, List.append_nil]
  after_results_simp
  clean_types
  pointwise

theorem samples_apply (c : Dev nD) (n : Fin 65536) (e : Fin 1024) : (V m c main_v30 : Vec Ideal S65536x1024 .f32) (ix2 n e)
    = (m (c.tc.loc main_arg1) : Vec Ideal S32x2048x1024 .f32) (ix3 ⟨n / 2048, by omega⟩ ⟨n % 2048, by omega⟩ e) := by
  show StableHlo.after (List.flatten [hostOps0, hostOps0_1, hostOps0_2, hostOps0_3, hostOps0_4]) (fun b => m (c, b)) (Proc.devRef .tc main_v30) _ = _
  simp only [hostOps0, hostOps0_1, hostOps0_2, hostOps0_3, hostOps0_4, List.flatten_cons, List.flatten_nil, List.cons_append, List.nil_append, List.append_nil]
  after_results_simp
  clean_types
  pointwise

/-- A row of the operands is one of the batches. -/
theorem rowAt_eq (c : Dev nD) : rowAt (V m c main_v29) (V m c main_v30) = bothAt (m (c.tc.loc main_arg0)) (m (c.tc.loc main_arg1)) := by
  funext n e
  unfold rowAt bothAt
  split_ifs with h
  · exact prompts_apply m c ⟨n, h⟩ e
  · refine (samples_apply m c ⟨n - 32768, by omega⟩ e).trans ?_
    refine congrArg₂ (fun i j => (m (c.tc.loc main_arg1) : Vec Ideal S32x2048x1024 .f32) (ix3 i j e)) (Fin.ext ?_) (Fin.ext ?_) <;> dsimp only <;> omega

/-- The rows, at an entry. -/
theorem finalX_apply (c : Dev nD) (n : Fin 98304) (e : Fin 1024) : ((dats m 0 c).arrAt 5 cfg0.N : Vec Ideal S98304x1024 .f32) (ix2 n e)
    = bothAt (m (c.tc.loc main_arg0)) (m (c.tc.loc main_arg1)) n e := by
  rw [finalX]
  exact congrFun (congrFun (rowAt_eq m c) n) e

/-- The queries, keys and values, at an entry. -/
theorem finalQ_apply (c : Dev nD) (n : Fin 98304) (e : Fin 3072) : ((dats m 0 c).arrAt 6 cfg0.N : Vec Ideal S98304x3072 .bf16) (ix2 n e)
    = qkvRow (proj (bothAt (m (c.tc.loc main_arg0)) (m (c.tc.loc main_arg1)) n) (m (c.tc.loc main_arg2)))
      (fun l => Host.cos (F := Ideal) angles (ix2 ⟨n % 2048, by omega⟩ ⟨l % 32, by omega⟩))
      (fun l => Host.sin (F := Ideal) angles (ix2 ⟨n % 2048, by omega⟩ ⟨l % 32, by omega⟩) * if l.val % 64 < 32 then -1 else 1) e := by
  rw [finalQ, cos_table, sin_table]
  show qkvRow (proj (rowAt _ _ n) _) _ _ e = _
  rw [rowAt_eq]
  refine congr (congrArg₂ (fun w C => qkvRow (proj _ w) C) (weights_table m c) (funext fun l => tiled_apply _ _ l)) (funext fun l => signed_apply _ l) |> fun h => congrFun h e

/-- The other products, at an entry. -/
theorem finalR_apply (c : Dev nD) (n : Fin 98304) (e : Fin 4096) : ((dats m 0 c).arrAt 7 cfg0.N : Vec Ideal S98304x4096 .bf16) (ix2 n e)
    = proj (bothAt (m (c.tc.loc main_arg0)) (m (c.tc.loc main_arg1)) n) (m (c.tc.loc main_arg2)) ⟨3072 + e, by omega⟩ := by
  rw [finalR]
  show proj (rowAt _ _ n) _ _ = _
  rw [rowAt_eq]
  exact congrArg (fun w => proj _ w _) (weights_table m c)

end Cert.Kernel5Ideal.First

end
-- ==== Proof.Merge.Ref.lean ====
/-
  The reference's stream after a layer, at an index.
-/
module

public import proofs.«01_k».proof.Proof.Merge.Math
public import proofs.«01_k».proof.Proof.Gen.Reference3Ideal.Run
public import Idealize.ShloMosaic.Lib.Tactic.CleanTypes

@[expose] public section

noncomputable section

namespace Cert.Reference3Ideal.Merge

open Cert.Merge Cert.Reference3Ideal Cert.Reference3Ideal.Gen Cert.Reference3Ideal.Value Idealize.ShloMosaic Idealize.ShloMosaic.TcCoe Idealize.SL.Sem

variable (m : (ℓ : Loc nD τ sig) → Buf (Elt Ideal) ℓ)

/-- The scaled stream plus the experts' outputs at their gates. -/
def mixV (x : FVec Ideal S786432x128 .f32) (y : FVec Ideal S1581056x128 .f32) (R : FVec Ideal S98304x128 .f32) : FVec Ideal S98304x1024 .f32 :=
  addf (mulf (broadcastInDim S98304x1024 ![] bcast_S_S98304x1024 (constant S_ .f32 0x3FD744FD#32)) (shapeCast S98304x1024 x shapeCasts_S786432x128_S98304x1024))
    (addf (mulf (broadcastInDim S98304x1024 ![0, 1] bcast_S98304x1_S98304x1024_0_1 (extractStridedSlice S98304x1 ![0, 2] R slices_S98304x128_S98304x1_0_2))
        (extractStridedSlice S98304x1024 ![0, 0] (shapeCast S197632x1024 y shapeCasts_S1581056x128_S197632x1024) slices_S197632x1024_S98304x1024_0_0))
      (mulf (broadcastInDim S98304x1024 ![0, 1] bcast_S98304x1_S98304x1024_0_1 (extractStridedSlice S98304x1 ![0, 3] R slices_S98304x128_S98304x1_0_3))
        (extractStridedSlice S98304x1024 ![98304, 0] (shapeCast S197632x1024 y shapeCasts_S1581056x128_S197632x1024) slices_S197632x1024_S98304x1024_98304_0)))

/-- The means of the rows. -/
def meanV (t : FVec Ideal S98304x1024 .f32) : FVec Ideal S98304x1 .f32 :=
  Host.divf (broadcastInDim S98304x1 ![0] bcast_S98304_S98304x1_0 (Host.reduceAdd t (constant S_ .f32 0x00000000#32) reducesTo_S98304x1024_S98304_d1 h_S_))
    (broadcastInDim S98304x1 ![] bcast_S_S98304x1 (constant S_ .f32 0x44800000#32))

/-- The rows less their means. -/
def centreV (t : FVec Ideal S98304x1024 .f32) : FVec Ideal S98304x1024 .f32 :=
  subf t (broadcastInDim S98304x1024 ![0, 1] bcast_S98304x1_S98304x1024_0_1 (meanV t))

/-- The norm of the rows. -/
def normV (g b : FVec Ideal S1024 .f32) (t : FVec Ideal S98304x1024 .f32) : FVec Ideal S98304x1024 .f32 :=
  addf (mulf (mulf (centreV t) (broadcastInDim S98304x1024 ![0, 1] bcast_S98304x1_S98304x1024_0_1
      (Host.rsqrt (addf (meanV (mulf (centreV t) (centreV t))) (broadcastInDim S98304x1 ![] bcast_S_S98304x1 (constant S_ .f32 0x3727C5AC#32))))))
    (broadcastInDim S98304x1024 ![0, 1] bcast_S1x1024_S98304x1024_0_1 (broadcastInDim S1x1024 ![1] bcast_S1024_S1x1024_1 g)))
    (broadcastInDim S98304x1024 ![0, 1] bcast_S1x1024_S98304x1024_0_1 (broadcastInDim S1x1024 ![1] bcast_S1024_S1x1024_1 b))

set_option maxRecDepth 16384

theorem mixV_apply (x : FVec Ideal S786432x128 .f32) (y : FVec Ideal S1581056x128 .f32) (R : FVec Ideal S98304x128 .f32) (n : Fin 98304) (e : Fin 1024) :
    mixV x y R (ix2 n e) = mixAt (x (ix2 ⟨8 * n + e / 128, by omega⟩ ⟨e % 128, by omega⟩)) (y (ix2 ⟨8 * n + e / 128, by omega⟩ ⟨e % 128, by omega⟩))
      (y (ix2 ⟨786432 + (8 * n + e / 128), by omega⟩ ⟨e % 128, by omega⟩)) (R (ix2 n 2)) (R (ix2 n 3)) := by
  unfold mixV mixAt
  pointwise
  simp only [show n.val * 8 = 8 * n.val by omega, show (98304 + n.val) * 8 + e.val / 128 = 786432 + (8 * n.val + e.val / 128) by omega]

theorem meanV_apply (t : FVec Ideal S98304x1024 .f32) (n : Fin 98304) : meanV t (ix2 n 0) = mean fun e => t (ix2 n e) := by
  unfold meanV mean
  pointwise

theorem centreV_apply (t : FVec Ideal S98304x1024 .f32) (n : Fin 98304) (e : Fin 1024) : centreV t (ix2 n e) = centred (fun e => t (ix2 n e)) e := by
  unfold centreV
  pointwise
  rw [meanV_apply]
  rfl

theorem normV_apply (g b : FVec Ideal S1024 .f32) (t : FVec Ideal S98304x1024 .f32) (n : Fin 98304) (e : Fin 1024) :
    normV g b t (ix2 n e) = normRow (fun e => t (ix2 n e)) (fun e => g (ix1 e)) (fun e => b (ix1 e)) e := by
  unfold normV
  pointwise
  rw [meanV_apply, centreV_apply]
  pointwise
  simp only [centreV_apply]
  rfl

/-- A token's row of the reference's stream. -/
theorem stream_apply (x : FVec Ideal S786432x128 .f32) (y : FVec Ideal S1581056x128 .f32) (R : FVec Ideal S98304x128 .f32) (g b : FVec Ideal S1024 .f32)
    (n : Fin 98304) (e : Fin 1024) :
    normV g b (mixV x y R) (ix2 n e) = streamAt x y R (fun e => g (ix1 e)) (fun e => b (ix1 e)) n e := by
  rw [normV_apply]
  simp only [mixV_apply]
  rfl

set_option maxHeartbeats 1000000 in
theorem res_eq (c : Dev nD) : res_main_v38 m c = extractStridedSlice S32768x1024 ![0, 0]
    (normV (m (c.tc.loc main_arg3)) (m (c.tc.loc main_arg4)) (mixV (m (c.tc.loc main_arg0)) (m (c.tc.loc main_arg1)) (m (c.tc.loc main_arg2))))
    slices_S98304x1024_S32768x1024_0_0 := rfl

theorem slice_apply (t : FVec Ideal S98304x1024 .f32) (n : Fin 32768) (e : Fin 1024) :
    extractStridedSlice S32768x1024 ![0, 0] t slices_S98304x1024_S32768x1024_0_0 (ix2 n e) = t (ix2 ⟨n, by omega⟩ e) := by
  pointwise

/-- The reference's result on the prompt. -/
theorem res_apply (c : Dev nD) (n : Fin 32768) (e : Fin 1024) : (res_main_v38 m c : FVec Ideal S32768x1024 .f32) (ix2 n e)
    = streamAt (m (c.tc.loc main_arg0)) (m (c.tc.loc main_arg1)) (m (c.tc.loc main_arg2)) (fun e => (m (c.tc.loc main_arg3) : FVec Ideal S1024 .f32) (ix1 e))
      (fun e => (m (c.tc.loc main_arg4) : FVec Ideal S1024 .f32) (ix1 e)) ⟨n, by omega⟩ e := by
  rw [res_eq]
  exact (slice_apply _ n e).trans (stream_apply _ _ _ _ _ _ e)

end Cert.Reference3Ideal.Merge

end
-- ==== Proof.Inproj.Ref.lean ====
/-
  The reference's results of the projection, at an index.
-/
module

public import proofs.«01_k».proof.Proof.Merge.Ref
public import proofs.«01_k».proof.Proof.Inproj.Table
public import proofs.«01_k».proof.Proof.Gen.Reference2Ideal.Run

@[expose] public section

noncomputable section

namespace Cert.Reference2Ideal.Inproj

open Cert.Merge Cert.Inproj Cert.Reference2Ideal Cert.Reference2Ideal.Gen Cert.Reference2Ideal.Value Idealize.ShloMosaic Idealize.ShloMosaic.TcCoe Idealize.SL.Sem
open Cert.Reference3Ideal.Merge (mixV normV stream_apply)
open Cert.Kernel2Ideal.Inproj (angles)

variable (m : (ℓ : Loc nD τ sig) → Buf (Elt Ideal) ℓ)

/-- The rows times the weights. -/
def uV (x : FVec Ideal S98304x1024 .f32) (w : FVec Ideal S1024x7168 .f32) : FVec Ideal S98304x7168 .f32 :=
  Host.dotGeneral dot_S98304x1024_S1024x7168_S98304x7168_1_0_0_1_n_n none x w

/-- The angle of every position and lane. -/
def angV : FVec Ideal S1x2048x1x1x64 .f32 :=
  broadcastInDim S1x2048x1x1x64 ![1, 4] bcast_S2048x64_S1x2048x1x1x64_1_4 (fn_main_v56 (F := Ideal) (angles (F := Ideal)) (angles (F := Ideal)))

/-- The rotary turn. -/
def turnV (t : FVec Ideal S48x2048x8x2x64 .f32) : FVec Ideal S48x2048x8x2x64 .f32 :=
  addf (mulf t (broadcastInDim S48x2048x8x2x64 ![0, 1, 2, 3, 4] bcast_S1x2048x1x1x64_S48x2048x8x2x64_0_1_2_3_4 (Host.cos angV)))
    (mulf (fn_main_v61 (F := Ideal)
        (Host.negf (extractStridedSlice S48x2048x8x2x32 ![0, 0, 0, 0, 32] t slices_S48x2048x8x2x64_S48x2048x8x2x32_0_0_0_0_32))
        (extractStridedSlice S48x2048x8x2x32 ![0, 0, 0, 0, 0] t slices_S48x2048x8x2x64_S48x2048x8x2x32_0_0_0_0_0))
      (broadcastInDim S48x2048x8x2x64 ![0, 1, 2, 3, 4] bcast_S1x2048x1x1x64_S48x2048x8x2x64_0_1_2_3_4 (Host.sin angV)))

/-- The rotary turn of rows of heads. -/
def ropeV (t : FVec Ideal S98304x1024 .f32) : FVec Ideal S98304x1024 .f32 :=
  shapeCast S98304x1024 (turnV (shapeCast S48x2048x8x2x64 t shapeCasts_S98304x1024_S48x2048x8x2x64)) shapeCasts_S48x2048x8x2x64_S98304x1024

set_option maxRecDepth 16384

theorem uV_apply (x : FVec Ideal S98304x1024 .f32) (w : FVec Ideal S1024x7168 .f32) (n : Fin 98304) (e : Fin 7168) :
    uV x w (ix2 n e) = ∑ k : Fin 1024, x (ix2 n k) * w (ix2 k e) := by
  unfold uV
  pointwise

theorem twice_apply (a : FVec Ideal S2048x32 .f32) (p : Fin 2048) (l : Fin 64) : fn_main_v56 (F := Ideal) a a (ix2 p l) = a (ix2 p ⟨l % 32, by omega⟩) := by
  unfold fn_main_v56
  pointwise
  split_ifs
  all_goals first | exact congrArg (fun l => a (ix2 p l)) (Fin.ext (by dsimp only; omega)) | contradiction

theorem angV_apply (p : Fin 2048) (l : Fin 64) : angV (ix5 0 p 0 0 l) = (angles : FVec Ideal S2048x32 .f32) (ix2 p ⟨l % 32, by omega⟩) := by
  unfold angV
  pointwise
  exact twice_apply _ p l

theorem halves_apply (a b : FVec Ideal S48x2048x8x2x32 .f32) (s : Fin 48) (p : Fin 2048) (h : Fin 8) (j : Fin 2) (l : Fin 64) :
    fn_main_v61 (F := Ideal) a b (ix5 s p h j l) = if hl : l.val < 32 then a (ix5 s p h j ⟨l, hl⟩) else b (ix5 s p h j ⟨l - 32, by omega⟩) := by
  unfold fn_main_v61
  pointwise

theorem high_apply (t : FVec Ideal S48x2048x8x2x64 .f32) (s : Fin 48) (p : Fin 2048) (h : Fin 8) (j : Fin 2) (l : Fin 32) :
    Host.negf (F := Ideal) (extractStridedSlice S48x2048x8x2x32 ![0, 0, 0, 0, 32] t slices_S48x2048x8x2x64_S48x2048x8x2x32_0_0_0_0_32) (ix5 s p h j l)
      = -t (ix5 s p h j ⟨l + 32, by omega⟩) := by
  pointwise
  exact congrArg (fun l => -t (ix5 s p h j l)) (Fin.ext (by dsimp only; omega))

theorem low_apply (t : FVec Ideal S48x2048x8x2x64 .f32) (s : Fin 48) (p : Fin 2048) (h : Fin 8) (j : Fin 2) (l : Fin 32) :
    extractStridedSlice S48x2048x8x2x32 ![0, 0, 0, 0, 0] t slices_S48x2048x8x2x64_S48x2048x8x2x32_0_0_0_0_0 (ix5 s p h j l)
      = t (ix5 s p h j ⟨l, by omega⟩) := by
  pointwise

theorem turnV_apply (t : FVec Ideal S48x2048x8x2x64 .f32) (s : Fin 48) (p : Fin 2048) (h : Fin 8) (j : Fin 2) (l : Fin 64) (k : Fin 32) (hk : k.val = l.val % 32) :
    turnV t (ix5 s p h j l) = t (ix5 s p h j l) * Host.cos (F := Ideal) angles (ix2 p k)
      + (if hl : l.val < 32 then -t (ix5 s p h j ⟨l + 32, by omega⟩) else t (ix5 s p h j ⟨l - 32, by omega⟩))
        * Host.sin (F := Ideal) angles (ix2 p k) := by
  have hk' : (⟨l % 32, by omega⟩ : Fin 32) = k := Fin.ext hk.symm
  unfold turnV
  pointwise
  rw [angV_apply, halves_apply, hk']
  simp only [high_apply, low_apply]

theorem heads_apply (t : FVec Ideal S98304x1024 .f32) (s : Fin 48) (p : Fin 2048) (h : Fin 8) (j : Fin 2) (l : Fin 64) (n : Fin 98304) (e : Fin 1024)
    (hn : n.val = 2048 * s.val + p.val) (he : e.val = 128 * h.val + 64 * j.val + l.val) :
    shapeCast S48x2048x8x2x64 t shapeCasts_S98304x1024_S48x2048x8x2x64 (ix5 s p h j l) = t (ix2 n e) := by
  pointwise
  refine congrArg₂ (fun n e => t (ix2 n e)) (Fin.ext ?_) (Fin.ext ?_) <;> dsimp only <;> omega

theorem ropeV_apply (t : FVec Ideal S98304x1024 .f32) (n : Fin 98304) (e : Fin 1024) (k : Fin 32) (hk : k.val = e.val % 32) (a : EReal)
    (hp : ∀ hl : e.val % 64 < 32, -t (ix2 n ⟨e + 32, by omega⟩) = a) (hm : ∀ hl : ¬ e.val % 64 < 32, t (ix2 n ⟨e - 32, by omega⟩) = a) :
    ropeV t (ix2 n e) = t (ix2 n e) * Host.cos (F := Ideal) angles (ix2 ⟨n % 2048, by omega⟩ k)
      + a * Host.sin (F := Ideal) angles (ix2 ⟨n % 2048, by omega⟩ k) := by
  unfold ropeV
  pointwise
  refine (turnV_apply _ _ _ _ _ _ k (by dsimp only; omega)).trans ?_
  rw [heads_apply t _ _ _ _ _ n e (by dsimp only; omega) (by dsimp only; omega)]
  refine congrArg (fun z => t (ix2 n e) * Host.cos (F := Ideal) angles (ix2 ⟨n % 2048, by omega⟩ k) + z * _) ?_
  split_ifs with hl
  · have hl' : e.val % 64 < 32 := hl
    rw [← hp hl]
    exact congrArg (fun z => -z) (heads_apply t _ _ _ _ _ n _ (by dsimp only; omega) (by dsimp only; omega))
  · have hl' : ¬ e.val % 64 < 32 := hl
    rw [← hm hl]
    exact heads_apply t _ _ _ _ _ n _ (by dsimp only; omega) (by dsimp only; omega)

/-- The turn of a column range of products is that of their heads. -/
theorem rope_turn (u : Fin 7168 → EReal) (t : FVec Ideal S98304x1024 .f32) (n : Fin 98304) (o : ℕ) (ho : o % 128 = 0) (ho' : o + 1024 ≤ 3072)
    (ht : ∀ e : Fin 1024, t (ix2 n e) = u ⟨o + e, by omega⟩) (e : Fin 1024) :
    ropeV t (ix2 n e) = turn (headOf u ⟨o + e, by omega⟩)
      (fun l => Host.cos (F := Ideal) angles (ix2 ⟨n % 2048, by omega⟩ ⟨l % 32, by omega⟩))
      (fun l => Host.sin (F := Ideal) angles (ix2 ⟨n % 2048, by omega⟩ ⟨l % 32, by omega⟩) * if l.val % 64 < 32 then -1 else 1) ⟨(o + e) % 128, by omega⟩ := by
  have hk : e.val % 32 = (o + e.val) % 128 % 32 := by omega
  unfold turn headOf
  dsimp only
  by_cases hl : e.val % 64 < 32
  · have hl' : (o + e.val) % 128 % 64 < 32 := by omega
    rw [if_pos hl', if_pos hl', ropeV_apply t n e ⟨(o + e.val) % 128 % 32, by omega⟩ hk.symm (-t (ix2 n ⟨e + 32, by omega⟩)) (fun _ => rfl) (fun h => absurd hl h), ht, ht,
      mul_neg, mul_one, mul_neg, neg_mul]
    refine congrArg₂ (fun x y => u x * _ + -(u y * _)) (Fin.ext ?_) (Fin.ext ?_) <;> dsimp only <;> omega
  · have hl' : ¬ (o + e.val) % 128 % 64 < 32 := by omega
    rw [if_neg hl', if_neg hl', ropeV_apply t n e ⟨(o + e.val) % 128 % 32, by omega⟩ hk.symm (t (ix2 n ⟨e - 32, by omega⟩)) (fun h => absurd h hl) (fun _ => rfl), ht, ht,
      mul_one]
    refine congrArg₂ (fun x y => u x * _ + u y * _) (Fin.ext ?_) (Fin.ext ?_) <;> dsimp only <;> omega

set_option maxHeartbeats 1000000 in
theorem res_x (c : Dev nD) : res_main_v37 m c =
    (normV (m (c.tc.loc main_arg3)) (m (c.tc.loc main_arg4)) (mixV (m (c.tc.loc main_arg0)) (m (c.tc.loc main_arg1)) (m (c.tc.loc main_arg2)))) := rfl

/-- The products of the stream. -/
def prodV (c : Dev nD) : FVec Ideal S98304x7168 .f32 :=
  uV (normV (m (c.tc.loc main_arg3)) (m (c.tc.loc main_arg4)) (mixV (m (c.tc.loc main_arg0)) (m (c.tc.loc main_arg1)) (m (c.tc.loc main_arg2))))
    (m (c.tc.loc main_arg5))

/-- The queries, keys and values of products. -/
def qkvV (u : FVec Ideal S98304x7168 .f32) : FVec Ideal S98304x3072 .bf16 :=
  truncf .bf16 (fn_main_v101 (F := Ideal)
    (mulf (ropeV (extractStridedSlice S98304x1024 ![0, 0] u slices_S98304x7168_S98304x1024_0_0))
      (broadcastInDim S98304x1024 ![] bcast_S_S98304x1024 (Host.divf (constant S_ .f32 0x3E000000#32) (Host.log (constant S_ .f32 0x40000000#32)))))
    (ropeV (extractStridedSlice S98304x1024 ![0, 1024] u slices_S98304x7168_S98304x1024_0_1024))
    (extractStridedSlice S98304x1024 ![0, 2048] u slices_S98304x7168_S98304x1024_0_2048)) bitsLt_bf16_f32

/-- The other products. -/
def restV (u : FVec Ideal S98304x7168 .f32) : FVec Ideal S98304x4096 .bf16 :=
  truncf .bf16 (extractStridedSlice S98304x4096 ![0, 3072] u slices_S98304x7168_S98304x4096_0_3072) bitsLt_bf16_f32

theorem slices_apply (u : FVec Ideal S98304x7168 .f32) (n : Fin 98304) (e : Fin 1024) :
    extractStridedSlice S98304x1024 ![0, 0] u slices_S98304x7168_S98304x1024_0_0 (ix2 n e) = u (ix2 n ⟨0 + e, by omega⟩)
    ∧ extractStridedSlice S98304x1024 ![0, 1024] u slices_S98304x7168_S98304x1024_0_1024 (ix2 n e) = u (ix2 n ⟨1024 + e, by omega⟩)
    ∧ extractStridedSlice S98304x1024 ![0, 2048] u slices_S98304x7168_S98304x1024_0_2048 (ix2 n e) = u (ix2 n ⟨2048 + e, by omega⟩) := by
  refine ⟨?_, ?_, ?_⟩ <;> pointwise

theorem joined_apply (a b c : FVec Ideal S98304x1024 .f32) (n : Fin 98304) (e : Fin 3072) : fn_main_v101 (F := Ideal) a b c (ix2 n e)
    = if h : e.val < 1024 then a (ix2 n ⟨e, h⟩) else if h : e.val < 2048 then b (ix2 n ⟨e - 1024, by omega⟩) else c (ix2 n ⟨e - 2048, by omega⟩) := by
  unfold fn_main_v101
  pointwise
  split_ifs
  all_goals first
    | rfl
    | contradiction
    | (rename_i h0 h1 _
       have h0' : ¬ e.val < 1024 := h0
       have h1' : e.val - 1024 < 1024 := h1
       have h2 : e.val < 2048 := by clear h0 h1; omega
       rw [dif_pos h2])
    | (rename_i h0 h1 _
       have h1' : ¬ e.val - 1024 < 1024 := h1
       have h2 : ¬ e.val < 2048 := by clear h0 h1; omega
       rw [dif_neg h2]
       exact congrArg (fun l : Fin 1024 => c (ix2 n l)) (Fin.ext (Nat.sub_sub e.val 1024 1024)))

theorem headOf_congr (u : Fin 7168 → EReal) (c s : Fin 128 → EReal) {e e' : Fin 3072} (h : e = e') :
    turn (headOf u e) c s ⟨e.val % 128, by omega⟩ = turn (headOf u e') c s ⟨e'.val % 128, by omega⟩ := by subst h; rfl

/-- The queries, keys and values of a row. -/
theorem qkvV_apply (u : FVec Ideal S98304x7168 .f32) (n : Fin 98304) (e : Fin 3072) : qkvV u (ix2 n e)
    = qkvRow (fun e => u (ix2 n e)) (fun l => Host.cos (F := Ideal) angles (ix2 ⟨n % 2048, by omega⟩ ⟨l % 32, by omega⟩))
      (fun l => Host.sin (F := Ideal) angles (ix2 ⟨n % 2048, by omega⟩ ⟨l % 32, by omega⟩) * if l.val % 64 < 32 then -1 else 1) e := by
  refine (joined_apply _ _ _ n e).trans ?_
  unfold qkvRow
  split_ifs with h0 h1
  · refine congrArg₂ (fun z s => z * s) ((rope_turn (fun e => u (ix2 n e)) _ n 0 rfl (by omega) (fun e => (slices_apply u n e).1) ⟨e, h0⟩).trans ?_) scale_eq
    exact headOf_congr _ _ _ (Fin.ext (by dsimp only; omega))
  · refine (rope_turn (fun e => u (ix2 n e)) _ n 1024 rfl (by omega) (fun e => (slices_apply u n e).2.1) ⟨e - 1024, by omega⟩).trans ?_
    exact headOf_congr _ _ _ (Fin.ext (by dsimp only; omega))
  · refine (slices_apply u n ⟨e - 2048, by omega⟩).2.2.trans ?_
    exact congrArg (fun e => u (ix2 n e)) (Fin.ext (by dsimp only; omega))

theorem restV_apply (u : FVec Ideal S98304x7168 .f32) (n : Fin 98304) (e : Fin 4096) : restV u (ix2 n e) = u (ix2 n ⟨3072 + e, by omega⟩) := by
  unfold restV
  pointwise

/-- A product of the stream. -/
theorem prodV_apply (c : Dev nD) (n : Fin 98304) (e : Fin 7168) : prodV m c (ix2 n e)
    = proj (streamAt (m (c.tc.loc main_arg0)) (m (c.tc.loc main_arg1)) (m (c.tc.loc main_arg2)) (fun e => (m (c.tc.loc main_arg3) : FVec Ideal S1024 .f32) (ix1 e))
      (fun e => (m (c.tc.loc main_arg4) : FVec Ideal S1024 .f32) (ix1 e)) n) (m (c.tc.loc main_arg5)) e := by
  unfold prodV
  rw [uV_apply]
  unfold proj
  exact Finset.sum_congr rfl fun k _ => congrArg (fun z => z * _) (stream_apply _ _ _ _ _ n k)

set_option maxHeartbeats 400000 in
theorem res_qkv (c : Dev nD) : res_main_v102 m c = qkvV (prodV m c) := rfl

set_option maxHeartbeats 1000000 in
theorem res_rest (c : Dev nD) : res_main_v103 m c = restV (prodV m c) := rfl

end Cert.Reference2Ideal.Inproj

end
-- ==== Proof.First.Claim.lean ====
/-
  The first layer's projection is the reference's, in its three results.
-/
module

public import proofs.«01_k».proof.Proof.First.Array
public import proofs.«01_k».proof.Proof.Inproj.Ref
public import proofs.«01_k».proof.Proof.Gen.Reference5Ideal.Run
public import proofs.«01_k».proof.Defs
public import Idealize.ShloMosaic.Adequacy
public import Idealize.ShloMosaic.Init

@[expose] public section

noncomputable section

namespace Cert.Proof

open Idealize.ShloMosaic Idealize.ShloMosaic.TcCoe Idealize.SL.Sem

section Reference
open Cert.Reference5Ideal Cert.Reference5Ideal.Gen Cert.Reference5Ideal.Value
open Cert.Reference2Ideal.Inproj (uV qkvV restV uV_apply qkvV_apply restV_apply)

/-- The batches as rows, in the reference. -/
def bothV (p : FVec Ideal S16x2048x1024 .f32) (s : FVec Ideal S32x2048x1024 .f32) : FVec Ideal S98304x1024 .f32 :=
  shapeCast S98304x1024 (fn_main_v0 (F := Ideal) p s) shapeCasts_S48x2048x1024_S98304x1024

theorem joinedV_apply (p : FVec Ideal S16x2048x1024 .f32) (s : FVec Ideal S32x2048x1024 .f32) (b : Fin 48) (t : Fin 2048) (e : Fin 1024) :
    fn_main_v0 (F := Ideal) p s (ix3 b t e) = if h : b.val < 16 then p (ix3 ⟨b, h⟩ t e) else s (ix3 ⟨b - 16, by omega⟩ t e) := by
  unfold fn_main_v0
  pointwise

theorem bothV_apply (p : FVec Ideal S16x2048x1024 .f32) (s : FVec Ideal S32x2048x1024 .f32) (n : Fin 98304) (e : Fin 1024) :
    bothV p s (ix2 n e) = Cert.Kernel5Ideal.First.bothAt p s n e := by
  have h : bothV p s (ix2 n e) = fn_main_v0 (F := Ideal) p s (ix3 ⟨n / 2048, by omega⟩ ⟨n % 2048, by omega⟩ e) := by
    unfold bothV
    pointwise
  rw [h, joinedV_apply]
  unfold Cert.Kernel5Ideal.First.bothAt
  by_cases hn : n.val < 32768
  · rw [dif_pos hn, dif_pos (show n.val / 2048 < 16 by omega)]
  · rw [dif_neg hn, dif_neg (show ¬ n.val / 2048 < 16 by omega)]

theorem prod5_apply (p : FVec Ideal S16x2048x1024 .f32) (s : FVec Ideal S32x2048x1024 .f32) (w : FVec Ideal S1024x7168 .f32) (n : Fin 98304) (e : Fin 7168) :
    uV (bothV p s) w (ix2 n e) = Cert.Inproj.proj (Cert.Kernel5Ideal.First.bothAt p s n) w e := by
  rw [uV_apply]
  unfold Cert.Inproj.proj
  exact Finset.sum_congr rfl fun k _ => congrArg (fun z => z * _) (bothV_apply p s n k)

set_option maxRecDepth 16384 in
set_option maxHeartbeats 4000000 in
theorem res5_qkv (m : (ℓ : Loc nD τ sig) → Buf (Elt Ideal) ℓ) (c : Dev nD) :
    res_main_v66 m c = qkvV (uV (bothV (m (c.tc.loc main_arg0)) (m (c.tc.loc main_arg1))) (m (c.tc.loc main_arg2))) := rfl

end Reference

/-- The reference ends with its arguments unchanged; it declares no semaphore. -/
theorem frame_ref5 : Cert.quiescent_Reference5Ideal := fun m g _ =>
  (θ_run _ _ _).mono (fun r h => ⟨fun c => (h c).2.2.2, sem_eq_zero_of_no_sems (by decide) r.2⟩) (Cert.Reference5Ideal.Value.run m g)

/-- The rows. -/
theorem first_x (m : (ℓ : Loc Cert.Kernel5Ideal.nD Cert.Kernel5Ideal.τ Cert.Kernel5Ideal.sig) → Buf (Elt Ideal) ℓ) (c : Dev Cert.Kernel5Ideal.nD) :
    bothV (m (c.tc.loc Cert.Kernel5Ideal.main_arg0)) (m (c.tc.loc Cert.Kernel5Ideal.main_arg1))
      = (Cert.Kernel5Ideal.Gen.dats m 0 c).arrAt 5 Cert.Kernel5Ideal.cfg0.N := by
  funext i
  rw [eq_ix2 (n0 := 98304) (n1 := 1024) i]
  exact (bothV_apply _ _ (i 0) (i 1)).trans (Cert.Kernel5Ideal.First.finalX_apply m c (i 0) (i 1)).symm

/-- The queries, keys and values. -/
theorem first_qkv (m : (ℓ : Loc Cert.Kernel5Ideal.nD Cert.Kernel5Ideal.τ Cert.Kernel5Ideal.sig) → Buf (Elt Ideal) ℓ) (c : Dev Cert.Kernel5Ideal.nD) :
    Cert.Reference2Ideal.Inproj.qkvV (Cert.Reference2Ideal.Inproj.uV (bothV (m (c.tc.loc Cert.Kernel5Ideal.main_arg0)) (m (c.tc.loc Cert.Kernel5Ideal.main_arg1)))
      (m (c.tc.loc Cert.Kernel5Ideal.main_arg2))) = (Cert.Kernel5Ideal.Gen.dats m 0 c).arrAt 6 Cert.Kernel5Ideal.cfg0.N := by
  funext i
  rw [eq_ix2 (n0 := 98304) (n1 := 3072) i]
  refine (Cert.Reference2Ideal.Inproj.qkvV_apply _ (i 0) (i 1)).trans ?_
  refine Eq.trans ?_ (Cert.Kernel5Ideal.First.finalQ_apply m c (i 0) (i 1)).symm
  exact congrArg (fun u => Cert.Inproj.qkvRow u _ _ (i 1)) (funext fun e => prod5_apply _ _ _ (i 0) e)

/-- The other products. -/
theorem first_rest (m : (ℓ : Loc Cert.Kernel5Ideal.nD Cert.Kernel5Ideal.τ Cert.Kernel5Ideal.sig) → Buf (Elt Ideal) ℓ) (c : Dev Cert.Kernel5Ideal.nD) :
    Cert.Reference2Ideal.Inproj.restV (Cert.Reference2Ideal.Inproj.uV (bothV (m (c.tc.loc Cert.Kernel5Ideal.main_arg0)) (m (c.tc.loc Cert.Kernel5Ideal.main_arg1)))
      (m (c.tc.loc Cert.Kernel5Ideal.main_arg2))) = (Cert.Kernel5Ideal.Gen.dats m 0 c).arrAt 7 Cert.Kernel5Ideal.cfg0.N := by
  funext i
  rw [eq_ix2 (n0 := 98304) (n1 := 4096) i]
  refine (Cert.Reference2Ideal.Inproj.restV_apply _ (i 0) (i 1)).trans ?_
  refine Eq.trans ?_ (Cert.Kernel5Ideal.First.finalR_apply m c (i 0) (i 1)).symm
  exact prod5_apply _ _ _ (i 0) _

/-- The first layer's projection and its reference end with the same results. -/
theorem algebraic_first : Cert.algebraic_Kernel5Ideal_Reference5Ideal := by
  intro m g m' g' hp hm
  refine ⟨_, _, _, Cert.Kernel5Ideal.Value.run_blocks m g,
    (θ_run _ _ _).mono (fun r h c => ⟨(h c).1.trans ?_, (h c).2.1.trans ?_, (h c).2.2.1.trans ?_, (h c).2.2.2⟩) (Cert.Reference5Ideal.Value.run m' g')⟩
  · obtain ⟨r0, r1, r2⟩ := hm c
    rw [r0, r1]
    exact first_x m c
  · obtain ⟨r0, r1, r2⟩ := hm c
    rw [res5_qkv, r0, r1, r2]
    exact first_qkv m c
  · obtain ⟨r0, r1, r2⟩ := hm c
    rw [r0, r1, r2]
    exact first_rest m c

end Cert.Proof

end
-- ==== Proof.Inproj.Block.lean ====
/-
  The block of the stream that one grid point of the projection leaves.
-/
module

public import proofs.«01_k».proof.Proof.Inproj.Tile
public import proofs.«01_k».proof.Proof.Gen.Kernel2Ideal.Frame

@[expose] public section

noncomputable section

namespace Cert.Kernel2Ideal.Inproj

open Cert.Merge Cert.Inproj Cert.Kernel2Ideal Cert.Kernel2Ideal.Gen Idealize.ShloMosaic Idealize.ShloMosaic.TcCoe Idealize.SL.Sem

/-- The block of the stream at a grid point. -/
def blockX (x0 x1 x2 : Vec Ideal S4096x128 .f32) (x3 : Vec Ideal S512x128 .f32) (x4 x5 : Vec Ideal S1x1024 .f32) :
    Vec Ideal S512x1024 .f32 := fun y =>
  have h0 : (y 0).val < 512 := (y 0).isLt
  mergeRow (fun e => x0 (ix2 ⟨8 * (y 0).val + e / 128, by omega⟩ ⟨e % 128, by omega⟩))
    (fun e => x1 (ix2 ⟨8 * (y 0).val + e / 128, by omega⟩ ⟨e % 128, by omega⟩))
    (fun e => x2 (ix2 ⟨8 * (y 0).val + e / 128, by omega⟩ ⟨e % 128, by omega⟩))
    (x3 (ix2 ⟨(y 0).val, h0⟩ 2)) (x3 (ix2 ⟨(y 0).val, h0⟩ 3)) (fun e => x4 (ix2 0 e)) (fun e => x5 (ix2 0 e)) ⟨(y 1).val, (y 1).isLt⟩

set_option maxRecDepth 16384

theorem strided_inb (o : Fin 8) : ∀ a : Fin S4096x128.rank, (![512, 128] : Fin 2 → ℕ) a = 0
    ∨ (![o.val, 0] : Fin 2 → ℕ) a + (![8, 1] : Fin 2 → ℕ) a * ((![512, 128] : Fin 2 → ℕ) a - 1) < S4096x128.size a := by
  intro a
  have := o.isLt
  fin_cases a <;> simp <;> omega

/-- Every eighth row of a block, from a given one on. -/
def strided {sg : RefSig} (arg : Memref sg .tc .vmem S4096x128 .f32) (harg : arg.IsWhole) (x : Vec Ideal S4096x128 .f32) (o : Fin 8) :
    Vec Ideal S512x128 .f32 :=
  View.readAt (Elt Ideal) arg.view { off := ![o.val, 0], size := ![512, 128], stride := ![8, 1], inb := strided_inb o } (harg.unread x)

theorem strided_apply {sg : RefSig} (arg : Memref sg .tc .vmem S4096x128 .f32) (harg : arg.IsWhole) (x : Vec Ideal S4096x128 .f32) (o : Fin 8)
    (r : Fin 512) (l : Fin 128) : strided arg harg x o (ix2 r l) = x (ix2 ⟨8 * r + o, by omega⟩ l) := by
  unfold strided View.readAt
  rw [Memref.IsWhole.read_unread]
  refine congrArg x (funext fun a => Fin.ext ?_)
  fin_cases a <;> simp [LoadRect.idx] <;> omega

/-- The stored block, entry by entry. -/
theorem tile {sg : RefSig} (arg1 : Memref sg .tc .vmem S4096x128 .f32) (harg1 : arg1.IsWhole) (arg2 : Memref sg .tc .vmem S4096x128 .f32) (harg2 : arg2.IsWhole)
    (arg3 : Memref sg .tc .vmem S4096x128 .f32) (harg3 : arg3.IsWhole) (x0 x1 x2 : Vec Ideal S4096x128 .f32) (x3 R : Vec Ideal S512x128 .f32)
    (x4 x5 g b : Vec Ideal S1x1024 .f32) (hR : ∀ r e, R (ix2 r e) = x3 (ix2 r e)) (hg : ∀ e, g (ix2 0 e) = x4 (ix2 0 e))
    (hb : ∀ e, b (ix2 0 e) = x5 (ix2 0 e)) (X Y Z : Fin 8 → Vec Ideal S512x128 .f32) (hX : X = strided arg1 harg1 x0)
    (hY : Y = strided arg2 harg2 x1) (hZ : Z = strided arg3 harg3 x2) (x y : S512x1024.Idx)
    (h0 : (y 0).val = (x 0).val) (h1 : (y 1).val = (x 1).val) :
    k0_pay12 (F := Ideal) (k0_pay1 R) (k0_pay2 R) (k0_pay3 R (X 0) (Y 0) (Z 0)) (k0_pay4 R (X 1) (Y 1) (Z 1)) (k0_pay5 R (X 2) (Y 2) (Z 2))
      (k0_pay6 (k0_pay1 R) (k0_pay2 R) (X 3) (Y 3) (Z 3)) (k0_pay7 (k0_pay1 R) (k0_pay2 R) (X 4) (Y 4) (Z 4))
      (k0_pay8 (k0_pay1 R) (k0_pay2 R) (X 5) (Y 5) (Z 5)) (k0_pay9 (X 6)) (k0_pay10 (k0_pay1 R) (Y 6)) (k0_pay11 (k0_pay2 R) (Z 6))
      (X 7) (Y 7) (Z 7) g b x = blockX x0 x1 x2 x3 x4 x5 y := by
  obtain ⟨r, e, rfl⟩ : ∃ (r : Fin 512) (e : Fin 1024), x = ix2 r e := ⟨x 0, x 1, eq_ix2 x⟩
  have e0 : (y 0).val = r.val := h0
  have e1 : (y 1).val = e.val := h1
  rw [pay_apply]
  subst hX hY hZ
  unfold blockX
  refine mergeRow_congr (fun e => ?_) (fun e => ?_) (fun e => ?_) ?_ ?_ hg hb (Fin.ext e1.symm)
  · rw [strided_apply]
    exact congrArg (fun k => x0 (ix2 k _)) (Fin.ext (by simp only [e0]))
  · rw [strided_apply]
    exact congrArg (fun k => x1 (ix2 k _)) (Fin.ext (by simp only [e0]))
  · rw [strided_apply]
    exact congrArg (fun k => x2 (ix2 k _)) (Fin.ext (by simp only [e0]))
  · rw [hR]
    exact congrArg (fun k => x3 (ix2 k _)) (Fin.ext e0.symm)
  · rw [hR]
    exact congrArg (fun k => x3 (ix2 k _)) (Fin.ext e0.symm)

/-- The rows that the projection multiplies are those of the block. -/
theorem rows {sg : RefSig} (arg1 : Memref sg .tc .vmem S4096x128 .f32) (harg1 : arg1.IsWhole) (arg2 : Memref sg .tc .vmem S4096x128 .f32) (harg2 : arg2.IsWhole)
    (arg3 : Memref sg .tc .vmem S4096x128 .f32) (harg3 : arg3.IsWhole) (x0 x1 x2 : Vec Ideal S4096x128 .f32) (x3 : Vec Ideal S512x128 .f32)
    (x4 x5 : Vec Ideal S1x1024 .f32) (inb3 inb4 inb5) (R : Vec Ideal S512x128 .f32) (g b : Vec Ideal S1x1024 .f32)
    (hR : R = View.ld x3 (Rect.unit ![0, 0] ![512, 128] inb3)) (hg : g = View.ld x4 (Rect.unit ![0, 0] ![1, 1024] inb4))
    (hb : b = View.ld x5 (Rect.unit ![0, 0] ![1, 1024] inb5)) (X Y Z : Fin 8 → Vec Ideal S512x128 .f32) (hX : X = strided arg1 harg1 x0)
    (hY : Y = strided arg2 harg2 x1) (hZ : Z = strided arg3 harg3 x2) (r : Fin 512) (k : Fin 1024) :
    k0_pay13 (F := Ideal) (k0_pay1 R) (k0_pay2 R) (k0_pay3 R (X 0) (Y 0) (Z 0)) (k0_pay4 R (X 1) (Y 1) (Z 1)) (k0_pay5 R (X 2) (Y 2) (Z 2))
      (k0_pay6 (k0_pay1 R) (k0_pay2 R) (X 3) (Y 3) (Z 3)) (k0_pay7 (k0_pay1 R) (k0_pay2 R) (X 4) (Y 4) (Z 4))
      (k0_pay8 (k0_pay1 R) (k0_pay2 R) (X 5) (Y 5) (Z 5)) (k0_pay9 (X 6)) (k0_pay10 (k0_pay1 R) (Y 6)) (k0_pay11 (k0_pay2 R) (Z 6))
      (X 7) (Y 7) (Z 7) g b (ix2 r k) = blockX x0 x1 x2 x3 x4 x5 (ix2 r k) := by
  refine tile arg1 harg1 arg2 harg2 arg3 harg3 x0 x1 x2 x3 R x4 x5 g b (fun r e => ?_) (fun e => ?_) (fun e => ?_) X Y Z hX hY hZ (ix2 r k) (ix2 r k) rfl rfl
  all_goals
    first | rw [hR] | rw [hg] | rw [hb]
    refine View.ld_unit_apply_of _ _ _ _ _ _ fun a => ?_
    fin_cases a <;> simp

/-- What a grid point leaves in the stream's block. -/
theorem out9_eq (c : Dev nD) (i : grid0.Coords) (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S512x128 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1024x7168 .bf16) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x1024 .f32) (harg10 : arg10.IsWhole)
    (arg11 : Memref sig .tc .vmem S512x3072 .bf16) (harg11 : arg11.IsWhole) (arg12 : Memref sig .tc .vmem S512x4096 .bf16) (harg12 : arg12.IsWhole)
    (x0 x1 x2 : Vec Ideal S4096x128 .f32) (x3 : Vec Ideal S512x128 .f32) (x4 x5 : Vec Ideal S1x1024 .f32) (x6 : Vec Ideal S1024x7168 .bf16)
    (x7 x8 : Vec Ideal S512x128 .f32) :
    out0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = blockX x0 x1 x2 x3 x4 x5 := by
  funext y
  unfold out0_A_9
  rw [View.read_writes_eq_canon (h := cover0_A_9 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  simp only [View.readAt_eq_ld, Memref.IsWhole.read_unread]
  canon_tiles x h
  refine tile arg1 harg1 arg2 harg2 arg3 harg3 x0 x1 x2 x3 _ x4 x5 _ _ (fun r e => ?_) (fun e => ?_) (fun e => ?_)
    (strided arg1 harg1 x0) (strided arg2 harg2 x1) (strided arg3 harg3 x2) rfl rfl rfl x y (by omega) (by omega)
  all_goals
    refine View.ld_unit_apply_of _ _ _ _ _ _ fun a => ?_
    fin_cases a <;> simp

end Cert.Kernel2Ideal.Inproj

end
-- ==== Proof.Inproj.Block10.lean ====
/-
  The block of queries, keys and values that one grid point of the projection leaves.
-/
module

public import proofs.«01_k».proof.Proof.Inproj.Block
public import proofs.«01_k».proof.Proof.Gen.Kernel2Ideal.Frame

@[expose] public section

noncomputable section

namespace Cert.Kernel2Ideal.Inproj

open Cert.Merge Cert.Inproj Cert.Kernel2Ideal Cert.Kernel2Ideal.Gen Idealize.ShloMosaic Idealize.ShloMosaic.TcCoe Idealize.SL.Sem

set_option maxRecDepth 16384
set_option maxHeartbeats 4000000

/-- What a grid point leaves in the block of queries, keys and values. -/
theorem out10_eq (c : Dev nD) (i : grid0.Coords) (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S512x128 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1024x7168 .bf16) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x1024 .f32) (harg10 : arg10.IsWhole)
    (arg11 : Memref sig .tc .vmem S512x3072 .bf16) (harg11 : arg11.IsWhole) (arg12 : Memref sig .tc .vmem S512x4096 .bf16) (harg12 : arg12.IsWhole)
    (x0 x1 x2 : Vec Ideal S4096x128 .f32) (x3 : Vec Ideal S512x128 .f32) (x4 x5 : Vec Ideal S1x1024 .f32) (x6 : Vec Ideal S1024x7168 .bf16)
    (x7 x8 : Vec Ideal S512x128 .f32) :
    out0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = qkvBlock (blockX x0 x1 x2 x3 x4 x5) x6 x7 x8 := by
  funext y
  unfold out0_A_10
  rw [View.read_writes_eq_canon (h := cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  simp only [View.readAt_eq_ld, Memref.IsWhole.read_unread]
  canon_tiles x h
  case piece0 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2560 384 _ slices_S512x512_o0_384_S512x128 (by decide) (by decide) (by decide) y x (by omega) (by omega)
  case piece1 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2560 256 _ slices_S512x512_o0_256_S512x128 (by decide) (by decide) (by decide) y x (by omega) (by omega)
  case piece2 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2560 128 _ slices_S512x512_o0_128_S512x128 (by decide) (by decide) (by decide) y x (by omega) (by omega)
  case piece3 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2560 0 _ slices_S512x512_o0_0_S512x128 (by decide) (by decide) (by decide) y x (by omega) (by omega)
  case piece4 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2048 384 _ slices_S512x512_o0_384_S512x128 (by decide) (by decide) (by decide) y x (by omega) (by omega)
  case piece5 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2048 256 _ slices_S512x512_o0_256_S512x128 (by decide) (by decide) (by decide) y x (by omega) (by omega)
  case piece6 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2048 128 _ slices_S512x512_o0_128_S512x128 (by decide) (by decide) (by decide) y x (by omega) (by omega)
  case piece7 => exact vtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 2048 0 _ slices_S512x512_o0_0_S512x128 (by decide) (by decide) (by decide) y x (by omega) (by omega)
  case piece8 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1536 384 _ slices_S512x512_o0_384_S512x128 (by decide) (by decide) (by decide) (by decide) (by decide) y x (by omega) (by omega)
  case piece9 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1536 256 _ slices_S512x512_o0_256_S512x128 (by decide) (by decide) (by decide) (by decide) (by decide) y x (by omega) (by omega)
  case piece10 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1536 128 _ slices_S512x512_o0_128_S512x128 (by decide) (by decide) (by decide) (by decide) (by decide) y x (by omega) (by omega)
  case piece11 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1536 0 _ slices_S512x512_o0_0_S512x128 (by decide) (by decide) (by decide) (by decide) (by decide) y x (by omega) (by omega)
  case piece12 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1024 384 _ slices_S512x512_o0_384_S512x128 (by decide) (by decide) (by decide) (by decide) (by decide) y x (by omega) (by omega)
  case piece13 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1024 256 _ slices_S512x512_o0_256_S512x128 (by decide) (by decide) (by decide) (by decide) (by decide) y x (by omega) (by omega)
  case piece14 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1024 128 _ slices_S512x512_o0_128_S512x128 (by decide) (by decide) (by decide) (by decide) (by decide) y x (by omega) (by omega)
  case piece15 => exact ktile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 1024 0 _ slices_S512x512_o0_0_S512x128 (by decide) (by decide) (by decide) (by decide) (by decide) y x (by omega) (by omega)
  case piece16 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 512 384 _ slices_S512x512_o0_384_S512x128 (by decide) (by decide) (by decide) (by decide) y x (by omega) (by omega)
  case piece17 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 512 256 _ slices_S512x512_o0_256_S512x128 (by decide) (by decide) (by decide) (by decide) y x (by omega) (by omega)
  case piece18 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 512 128 _ slices_S512x512_o0_128_S512x128 (by decide) (by decide) (by decide) (by decide) y x (by omega) (by omega)
  case piece19 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 512 0 _ slices_S512x512_o0_0_S512x128 (by decide) (by decide) (by decide) (by decide) y x (by omega) (by omega)
  case piece20 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 0 384 _ slices_S512x512_o0_384_S512x128 (by decide) (by decide) (by decide) (by decide) y x (by omega) (by omega)
  case piece21 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 0 256 _ slices_S512x512_o0_256_S512x128 (by decide) (by decide) (by decide) (by decide) y x (by omega) (by omega)
  case piece22 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 0 128 _ slices_S512x512_o0_128_S512x128 (by decide) (by decide) (by decide) (by decide) y x (by omega) (by omega)
  case piece23 => exact qtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 x7 x8 _ _ 0 0 _ slices_S512x512_o0_0_S512x128 (by decide) (by decide) (by decide) (by decide) y x (by omega) (by omega)

end Cert.Kernel2Ideal.Inproj

end
-- ==== Proof.Inproj.Block11.lean ====
/-
  The block of the other products that one grid point of the projection leaves.
-/
module

public import proofs.«01_k».proof.Proof.Inproj.Block
public import proofs.«01_k».proof.Proof.Gen.Kernel2Ideal.Frame

@[expose] public section

noncomputable section

namespace Cert.Kernel2Ideal.Inproj

open Cert.Merge Cert.Inproj Cert.Kernel2Ideal Cert.Kernel2Ideal.Gen Idealize.ShloMosaic Idealize.ShloMosaic.TcCoe Idealize.SL.Sem

set_option maxRecDepth 16384
set_option maxHeartbeats 4000000

/-- What a grid point leaves in the block of the other products. -/
theorem out11_eq (c : Dev nD) (i : grid0.Coords) (arg1 : Memref sig .tc .vmem S4096x128 .f32) (harg1 : arg1.IsWhole) (arg2 : Memref sig .tc .vmem S4096x128 .f32) (harg2 : arg2.IsWhole)
    (arg3 : Memref sig .tc .vmem S4096x128 .f32) (harg3 : arg3.IsWhole) (arg4 : Memref sig .tc .vmem S512x128 .f32) (harg4 : arg4.IsWhole)
    (arg5 : Memref sig .tc .vmem S1x1024 .f32) (harg5 : arg5.IsWhole) (arg6 : Memref sig .tc .vmem S1x1024 .f32) (harg6 : arg6.IsWhole)
    (arg7 : Memref sig .tc .vmem S1024x7168 .bf16) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x1024 .f32) (harg10 : arg10.IsWhole)
    (arg11 : Memref sig .tc .vmem S512x3072 .bf16) (harg11 : arg11.IsWhole) (arg12 : Memref sig .tc .vmem S512x4096 .bf16) (harg12 : arg12.IsWhole)
    (x0 x1 x2 : Vec Ideal S4096x128 .f32) (x3 : Vec Ideal S512x128 .f32) (x4 x5 : Vec Ideal S1x1024 .f32) (x6 : Vec Ideal S1024x7168 .bf16)
    (x7 x8 : Vec Ideal S512x128 .f32) :
    out0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8
      = restBlock (blockX x0 x1 x2 x3 x4 x5) x6 := by
  funext y
  unfold out0_A_11
  rw [View.read_writes_eq_canon (h := cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8)]
  unfold kernelRun0_A
  dsimp only
  sl_unfold_words
  simp only [View.readAt_eq_ld, Memref.IsWhole.read_unread]
  canon_tiles x h
  case piece0 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6656 384 _ _ (by decide) (by decide) y x (by omega) (by omega)
  case piece1 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6656 256 _ _ (by decide) (by decide) y x (by omega) (by omega)
  case piece2 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6656 128 _ _ (by decide) (by decide) y x (by omega) (by omega)
  case piece3 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6656 0 _ _ (by decide) (by decide) y x (by omega) (by omega)
  case piece4 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6144 384 _ _ (by decide) (by decide) y x (by omega) (by omega)
  case piece5 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6144 256 _ _ (by decide) (by decide) y x (by omega) (by omega)
  case piece6 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6144 128 _ _ (by decide) (by decide) y x (by omega) (by omega)
  case piece7 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 6144 0 _ _ (by decide) (by decide) y x (by omega) (by omega)
  case piece8 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5632 384 _ _ (by decide) (by decide) y x (by omega) (by omega)
  case piece9 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5632 256 _ _ (by decide) (by decide) y x (by omega) (by omega)
  case piece10 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5632 128 _ _ (by decide) (by decide) y x (by omega) (by omega)
  case piece11 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5632 0 _ _ (by decide) (by decide) y x (by omega) (by omega)
  case piece12 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5120 384 _ _ (by decide) (by decide) y x (by omega) (by omega)
  case piece13 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5120 256 _ _ (by decide) (by decide) y x (by omega) (by omega)
  case piece14 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5120 128 _ _ (by decide) (by decide) y x (by omega) (by omega)
  case piece15 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 5120 0 _ _ (by decide) (by decide) y x (by omega) (by omega)
  case piece16 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4608 384 _ _ (by decide) (by decide) y x (by omega) (by omega)
  case piece17 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4608 256 _ _ (by decide) (by decide) y x (by omega) (by omega)
  case piece18 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4608 128 _ _ (by decide) (by decide) y x (by omega) (by omega)
  case piece19 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4608 0 _ _ (by decide) (by decide) y x (by omega) (by omega)
  case piece20 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4096 384 _ _ (by decide) (by decide) y x (by omega) (by omega)
  case piece21 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4096 256 _ _ (by decide) (by decide) y x (by omega) (by omega)
  case piece22 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4096 128 _ _ (by decide) (by decide) y x (by omega) (by omega)
  case piece23 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 4096 0 _ _ (by decide) (by decide) y x (by omega) (by omega)
  case piece24 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3584 384 _ _ (by decide) (by decide) y x (by omega) (by omega)
  case piece25 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3584 256 _ _ (by decide) (by decide) y x (by omega) (by omega)
  case piece26 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3584 128 _ _ (by decide) (by decide) y x (by omega) (by omega)
  case piece27 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3584 0 _ _ (by decide) (by decide) y x (by omega) (by omega)
  case piece28 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3072 384 _ _ (by decide) (by decide) y x (by omega) (by omega)
  case piece29 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3072 256 _ _ (by decide) (by decide) y x (by omega) (by omega)
  case piece30 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3072 128 _ _ (by decide) (by decide) y x (by omega) (by omega)
  case piece31 => exact rtile (blockX x0 x1 x2 x3 x4 x5) _ (fun r k => rows arg1 harg1 arg2 harg2 arg3 harg3 x0 x1 x2 x3 x4 x5 (by decide) (by decide) (by decide) _ _ _ rfl rfl rfl
      (strided arg1 harg1 x0) (strided arg2 harg2 x1) (strided arg3 harg3 x2) rfl rfl rfl r k) x6 3072 0 _ _ (by decide) (by decide) y x (by omega) (by omega)

end Cert.Kernel2Ideal.Inproj

end
-- ==== Proof.Inproj.Array.lean ====
/-
  The result arrays of the projection as functions of its arguments and tables, at the extended reals.
-/
module

public import proofs.«01_k».proof.Proof.Inproj.Block10
public import proofs.«01_k».proof.Proof.Inproj.Block11
public import proofs.«01_k».proof.Proof.Inproj.Table
public import Idealize.ShloMosaic.Lib.Pipeline.ValueKit.Geometry

@[expose] public section

noncomputable section

namespace Cert.Kernel2Ideal.Inproj

open Cert.Merge Cert.Inproj Cert.Kernel2Ideal Cert.Kernel2Ideal.Gen Cert.Kernel2Ideal.Value Idealize.ShloMosaic Idealize.ShloMosaic.TcCoe Idealize.SL.Sem

variable (m : (ℓ : Loc nD τ sig) → Buf (Elt Ideal) ℓ) (ρ : Dev nD → PrngReg)

/-- A row of the stream, from the call's operands. -/
def rowAt (x : Vec Ideal S786432x128 .f32) (y : Vec Ideal S1581056x128 .f32) (R : Vec Ideal S98304x128 .f32) (g b : Vec Ideal S1x1024 .f32)
    (n : Fin 98304) (e : Fin 1024) : EReal :=
  streamAt x y R (fun e => g (ix2 0 e)) (fun e => b (ix2 0 e)) n e

/-- The stream. -/
def wholeX (x : Vec Ideal S786432x128 .f32) (y : Vec Ideal S1581056x128 .f32) (R : Vec Ideal S98304x128 .f32) (g b : Vec Ideal S1x1024 .f32) :
    Vec Ideal S98304x1024 .f32 := fun i => rowAt x y R g b ⟨(i 0).val, (i 0).isLt⟩ ⟨(i 1).val, (i 1).isLt⟩

/-- The queries, keys and values, at an entry. -/
def qAt (x : Vec Ideal S786432x128 .f32) (y : Vec Ideal S1581056x128 .f32) (R : Vec Ideal S98304x128 .f32) (g b : Vec Ideal S1x1024 .f32)
    (w : Vec Ideal S1024x7168 .bf16) (C S : Vec Ideal S2048x128 .f32) (n : Fin 98304) (e : Fin 3072) : EReal :=
  qkvRow (proj (rowAt x y R g b n) w) (fun l => C (ix2 ⟨n.val % 2048, by omega⟩ l)) (fun l => S (ix2 ⟨n.val % 2048, by omega⟩ l)) e

/-- The other products, at an entry. -/
def rAt (x : Vec Ideal S786432x128 .f32) (y : Vec Ideal S1581056x128 .f32) (R : Vec Ideal S98304x128 .f32) (g b : Vec Ideal S1x1024 .f32)
    (w : Vec Ideal S1024x7168 .bf16) (n : Fin 98304) (e : Fin 4096) : EReal :=
  proj (rowAt x y R g b n) w ⟨3072 + e.val, by omega⟩

/-- The queries, keys and values. -/
def wholeQ (x : Vec Ideal S786432x128 .f32) (y : Vec Ideal S1581056x128 .f32) (R : Vec Ideal S98304x128 .f32) (g b : Vec Ideal S1x1024 .f32)
    (w : Vec Ideal S1024x7168 .bf16) (C S : Vec Ideal S2048x128 .f32) : Vec Ideal S98304x3072 .bf16 := fun i =>
  qAt x y R g b w C S ⟨(i 0).val, (i 0).isLt⟩ ⟨(i 1).val, (i 1).isLt⟩

/-- The other products. -/
def wholeR (x : Vec Ideal S786432x128 .f32) (y : Vec Ideal S1581056x128 .f32) (R : Vec Ideal S98304x128 .f32) (g b : Vec Ideal S1x1024 .f32)
    (w : Vec Ideal S1024x7168 .bf16) : Vec Ideal S98304x4096 .bf16 := fun i =>
  rAt x y R g b w ⟨(i 0).val, (i 0).isLt⟩ ⟨(i 1).val, (i 1).isLt⟩

/-- Each window's block index at a grid point. -/
theorem index_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = 192 + win0_9.index t (0 : Fin 2) ∧ win0_2.index t (1 : Fin 2) = 0
    ∧ win0_3.index t (0 : Fin 2) = win0_9.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_9.index t (0 : Fin 2) < 192 ∧ win0_9.index t (1 : Fin 2) = 0 :=
  (by decide +kernel : ∀ t : Fin grid0.N, _)

theorem index_facts' : ∀ t : Fin cfg0.N,
    win0_6.index t (0 : Fin 2) = 0 ∧ win0_6.index t (1 : Fin 2) = 0
    ∧ win0_7.index t (0 : Fin 2) = win0_9.index t (0 : Fin 2) % 4 ∧ win0_7.index t (1 : Fin 2) = 0
    ∧ win0_8.index t (0 : Fin 2) = win0_9.index t (0 : Fin 2) % 4 ∧ win0_8.index t (1 : Fin 2) = 0
    ∧ win0_10.index t (0 : Fin 2) = win0_9.index t (0 : Fin 2) ∧ win0_10.index t (1 : Fin 2) = 0
    ∧ win0_11.index t (0 : Fin 2) = win0_9.index t (0 : Fin 2) ∧ win0_11.index t (1 : Fin 2) = 0 :=
  (by decide +kernel : ∀ t : Fin grid0.N, _)

set_option maxHeartbeats 1600000 in
/-- The rows of a grid point's block are rows of the stream. -/
theorem rows_eq (c : Dev nD) (t : Fin cfg0.N) (r : Fin 512) (e : Fin 1024) (n : Fin 98304) (hn : n.val = win0_9.index t (0 : Fin 2) * 512 + r.val) :
    blockX (iblk m c 0 t) (iblk m c 1 t) (iblk m c 2 t) (iblk m c 3 t) (iblk m c 4 t) (iblk m c 5 t) (ix2 r e)
      = rowAt (V m c main_arg0) (V m c main_arg1) (V m c main_arg2) (V m c main_v29) (V m c main_v30) n e := by
  obtain ⟨a0, a0', a1, a1', a2, a2', a3, a3', a4, a4', a5, a5', hb, hh⟩ := index_facts t
  unfold blockX rowAt streamAt
  blk_simp [iblk]
  refine mergeRow_congr (fun e => ?_) (fun e => ?_) (fun e => ?_) ?_ ?_ (fun e => ?_) (fun e => ?_) rfl
  · refine congrArg (V m c main_arg0) (funext fun a => Fin.ext ?_)
    match a with
    | ⟨0, _⟩ => blk_simp [a0]; try (dsimp only; omega)
    | ⟨1, _⟩ => blk_simp [a0']; try (dsimp only; omega)
  · refine congrArg (V m c main_arg1) (funext fun a => Fin.ext ?_)
    match a with
    | ⟨0, _⟩ => blk_simp [a1]; try (dsimp only; omega)
    | ⟨1, _⟩ => blk_simp [a1']; try (dsimp only; omega)
  · refine congrArg (V m c main_arg1) (funext fun a => Fin.ext ?_)
    match a with
    | ⟨0, _⟩ => blk_simp [a2]; try (dsimp only; omega)
    | ⟨1, _⟩ => blk_simp [a2']; try (dsimp only; omega)
  · refine congrArg (V m c main_arg2) (funext fun a => Fin.ext ?_)
    match a with
    | ⟨0, _⟩ => blk_simp [a3]; try (dsimp only; omega)
    | ⟨1, _⟩ => blk_simp [a3']; try (dsimp only; omega)
  · refine congrArg (V m c main_arg2) (funext fun a => Fin.ext ?_)
    match a with
    | ⟨0, _⟩ => blk_simp [a3]; try (dsimp only; omega)
    | ⟨1, _⟩ => blk_simp [a3']; try (dsimp only; omega)
  · refine congrArg (V m c main_v29) (funext fun a => Fin.ext ?_)
    match a with
    | ⟨0, _⟩ => blk_simp [a4]
    | ⟨1, _⟩ => blk_simp [a4']
  · refine congrArg (V m c main_v30) (funext fun a => Fin.ext ?_)
    match a with
    | ⟨0, _⟩ => blk_simp [a5]
    | ⟨1, _⟩ => blk_simp [a5']

theorem weights_eq (c : Dev nD) (t : Fin cfg0.N) : (iblk m c 6 t : Vec Ideal S1024x7168 .bf16) = V m c main_v31 := by
  obtain ⟨a6, a6', _⟩ := index_facts' t
  funext i
  obtain ⟨k, e, rfl⟩ : ∃ (k : Fin 1024) (e : Fin 7168), i = ix2 k e := ⟨i 0, i 1, eq_ix2 i⟩
  blk_simp [iblk]
  refine congrArg (V m c main_v31) (funext fun a => Fin.ext ?_)
  match a with
  | ⟨0, _⟩ => blk_simp [a6]
  | ⟨1, _⟩ => blk_simp [a6']

theorem cos_eq (c : Dev nD) (t : Fin cfg0.N) (r : Fin 512) (l : Fin 128) (n : Fin 98304) (hn : n.val = win0_9.index t (0 : Fin 2) * 512 + r.val) :
    (iblk m c 7 t : Vec Ideal S512x128 .f32) (ix2 r l) = (V m c main_v15 : Vec Ideal S2048x128 .f32) (ix2 ⟨n.val % 2048, by omega⟩ l) := by
  obtain ⟨_, _, a7, a7', a8, a8', _⟩ := index_facts' t
  blk_simp [iblk]
  refine congrArg (V m c main_v15) (funext fun a => Fin.ext ?_)
  match a with
  | ⟨0, _⟩ => blk_simp [a7]; try (dsimp only; omega)
  | ⟨1, _⟩ => blk_simp [a7']

theorem sin_eq (c : Dev nD) (t : Fin cfg0.N) (r : Fin 512) (l : Fin 128) (n : Fin 98304) (hn : n.val = win0_9.index t (0 : Fin 2) * 512 + r.val) :
    (iblk m c 8 t : Vec Ideal S512x128 .f32) (ix2 r l) = (V m c main_v28 : Vec Ideal S2048x128 .f32) (ix2 ⟨n.val % 2048, by omega⟩ l) := by
  obtain ⟨_, _, a7, a7', a8, a8', _⟩ := index_facts' t
  blk_simp [iblk]
  refine congrArg (V m c main_v28) (funext fun a => Fin.ext ?_)
  match a with
  | ⟨0, _⟩ => blk_simp [a8]; try (dsimp only; omega)
  | ⟨1, _⟩ => blk_simp [a8']

theorem finalX (c : Dev nD) : (dats m 0 c).arrAt 9 cfg0.N
    = wholeX (V m c main_arg0) (V m c main_arg1) (V m c main_arg2) (V m c main_v29) (V m c main_v30) := by
  refine (dats m 0 c).arrAt_eq_of_covers 9 _ (by decide +kernel) fun t hf y => ?_
  blk_simp
  rw [after0_9]
  unfold outsAt0
  rw [out9_eq]
  obtain ⟨a0, a0', a1, a1', a2, a2', a3, a3', a4, a4', a5, a5', hb, hh⟩ := index_facts t
  obtain ⟨r, e, rfl⟩ : ∃ (r : Fin 512) (e : Fin 1024), y = ix2 r e := ⟨y 0, y 1, eq_ix2 y⟩
  unfold wholeX
  refine (rows_eq m c t r e ⟨win0_9.index t (0 : Fin 2) * 512 + r.val, by omega⟩ rfl).trans ?_
  refine congrArg₂ (rowAt _ _ _ _ _) (Fin.ext ?_) (Fin.ext ?_)
  · blk_simp
  · blk_simp [hh]

theorem finalQ (c : Dev nD) : (dats m 0 c).arrAt 10 cfg0.N
    = wholeQ (V m c main_arg0) (V m c main_arg1) (V m c main_arg2) (V m c main_v29) (V m c main_v30) (V m c main_v31) (V m c main_v15) (V m c main_v28) := by
  refine (dats m 0 c).arrAt_eq_of_covers 10 _ (by decide +kernel) fun t hf y => ?_
  blk_simp
  rw [after0_10]
  unfold outsAt0
  rw [out10_eq]
  obtain ⟨a0, a0', a1, a1', a2, a2', a3, a3', a4, a4', a5, a5', hb, hh⟩ := index_facts t
  obtain ⟨_, _, _, _, _, _, a10, a10', _, _⟩ := index_facts' t
  obtain ⟨r, e, rfl⟩ : ∃ (r : Fin 512) (e : Fin 3072), y = ix2 r e := ⟨y 0, y 1, eq_ix2 y⟩
  unfold wholeQ qkvBlock
  rw [weights_eq]
  have hx := funext fun k => rows_eq m c t r k ⟨win0_9.index t (0 : Fin 2) * 512 + r.val, by omega⟩ rfl
  have hC := funext fun l => cos_eq m c t r l ⟨win0_9.index t (0 : Fin 2) * 512 + r.val, by omega⟩ rfl
  have hS := funext fun l => sin_eq m c t r l ⟨win0_9.index t (0 : Fin 2) * 512 + r.val, by omega⟩ rfl
  refine (congrArg₂ (fun x C => qkvRow (proj x (V m c main_v31)) C _ _) hx hC).trans ?_
  refine (congrArg (fun S => qkvRow (proj _ (V m c main_v31)) _ S _) hS).trans ?_
  refine congrArg₂ (qAt (V m c main_arg0) (V m c main_arg1) (V m c main_arg2) (V m c main_v29) (V m c main_v30) (V m c main_v31) (V m c main_v15)
    (V m c main_v28)) (Fin.ext ?_) (Fin.ext ?_)
  · blk_simp [a10]
  · blk_simp [a10']

theorem finalR (c : Dev nD) : (dats m 0 c).arrAt 11 cfg0.N
    = wholeR (V m c main_arg0) (V m c main_arg1) (V m c main_arg2) (V m c main_v29) (V m c main_v30) (V m c main_v31) := by
  refine (dats m 0 c).arrAt_eq_of_covers 11 _ (by decide +kernel) fun t hf y => ?_
  blk_simp
  rw [after0_11]
  unfold outsAt0
  rw [out11_eq]
  obtain ⟨a0, a0', a1, a1', a2, a2', a3, a3', a4, a4', a5, a5', hb, hh⟩ := index_facts t
  obtain ⟨_, _, _, _, _, _, _, _, a11, a11'⟩ := index_facts' t
  obtain ⟨r, e, rfl⟩ : ∃ (r : Fin 512) (e : Fin 4096), y = ix2 r e := ⟨y 0, y 1, eq_ix2 y⟩
  unfold wholeR restBlock
  rw [weights_eq]
  have hx := funext fun k => rows_eq m c t r k ⟨win0_9.index t (0 : Fin 2) * 512 + r.val, by omega⟩ rfl
  refine (congrArg (fun x => proj x (V m c main_v31) _) hx).trans ?_
  refine congrArg₂ (rAt (V m c main_arg0) (V m c main_arg1) (V m c main_arg2) (V m c main_v29) (V m c main_v30) (V m c main_v31))
    (Fin.ext ?_) (Fin.ext ?_)
  · blk_simp [a11]
  · blk_simp [a11']

/-- A row of the stream over the call's arguments. -/
theorem rowAt_eq (c : Dev nD) : rowAt (V m c main_arg0) (V m c main_arg1) (V m c main_arg2) (V m c main_v29) (V m c main_v30)
    = streamAt (m (c.tc.loc main_arg0)) (m (c.tc.loc main_arg1)) (m (c.tc.loc main_arg2)) (fun e => (m (c.tc.loc main_arg3) : Vec Ideal S1024 .f32) (ix1 e))
      (fun e => (m (c.tc.loc main_arg4) : Vec Ideal S1024 .f32) (ix1 e)) := by
  rw [V_main_arg0 m c, V_main_arg1 m c, V_main_arg2 m c]
  exact congrArg₂ (fun g b => streamAt (m (c.tc.loc main_arg0)) (m (c.tc.loc main_arg1)) (m (c.tc.loc main_arg2)) g b)
    (funext (gain m c)) (funext (offset m c))

/-- The stream, at an entry. -/
theorem finalX_apply (c : Dev nD) (n : Fin 98304) (e : Fin 1024) : ((dats m 0 c).arrAt 9 cfg0.N : Vec Ideal S98304x1024 .f32) (ix2 n e)
    = streamAt (m (c.tc.loc main_arg0)) (m (c.tc.loc main_arg1)) (m (c.tc.loc main_arg2)) (fun e => (m (c.tc.loc main_arg3) : Vec Ideal S1024 .f32) (ix1 e))
      (fun e => (m (c.tc.loc main_arg4) : Vec Ideal S1024 .f32) (ix1 e)) n e := by
  rw [finalX]
  exact congrFun (congrFun (rowAt_eq m c) n) e

/-- The queries, keys and values, at an entry. -/
theorem finalQ_apply (c : Dev nD) (n : Fin 98304) (e : Fin 3072) : ((dats m 0 c).arrAt 10 cfg0.N : Vec Ideal S98304x3072 .bf16) (ix2 n e)
    = qkvRow (proj (streamAt (m (c.tc.loc main_arg0)) (m (c.tc.loc main_arg1)) (m (c.tc.loc main_arg2)) (fun e => (m (c.tc.loc main_arg3) : Vec Ideal S1024 .f32) (ix1 e))
      (fun e => (m (c.tc.loc main_arg4) : Vec Ideal S1024 .f32) (ix1 e)) n) (m (c.tc.loc main_arg5)))
      (fun l => Host.cos (F := Ideal) angles (ix2 ⟨n % 2048, by omega⟩ ⟨l % 32, by omega⟩))
      (fun l => Host.sin (F := Ideal) angles (ix2 ⟨n % 2048, by omega⟩ ⟨l % 32, by omega⟩) * if l.val % 64 < 32 then -1 else 1) e := by
  rw [finalQ, cos_table, sin_table]
  show qkvRow (proj (rowAt _ _ _ _ _ n) _) _ _ e = _
  rw [rowAt_eq]
  refine congr (congrArg₂ (fun w C => qkvRow (proj _ w) C) (weights_table m c) (funext fun l => tiled_apply _ _ l)) (funext fun l => signed_apply _ l) |> fun h => congrFun h e

/-- The other products, at an entry. -/
theorem finalR_apply (c : Dev nD) (n : Fin 98304) (e : Fin 4096) : ((dats m 0 c).arrAt 11 cfg0.N : Vec Ideal S98304x4096 .bf16) (ix2 n e)
    = proj (streamAt (m (c.tc.loc main_arg0)) (m (c.tc.loc main_arg1)) (m (c.tc.loc main_arg2)) (fun e => (m (c.tc.loc main_arg3) : Vec Ideal S1024 .f32) (ix1 e))
      (fun e => (m (c.tc.loc main_arg4) : Vec Ideal S1024 .f32) (ix1 e)) n) (m (c.tc.loc main_arg5)) ⟨3072 + e, by omega⟩ := by
  rw [finalR]
  show proj (rowAt _ _ _ _ _ n) _ _ = _
  rw [rowAt_eq]
  exact congrArg (fun w => proj _ w _) (weights_table m c)

end Cert.Kernel2Ideal.Inproj

end
-- ==== Proof.Inproj.Claim.lean ====
/-
  The input projection of a later layer is the reference's, in its three results.
-/
module

public import proofs.«01_k».proof.Proof.Inproj.Array
public import proofs.«01_k».proof.Proof.Inproj.Ref
public import proofs.«01_k».proof.Defs
public import Idealize.ShloMosaic.Adequacy
public import Idealize.ShloMosaic.Init

@[expose] public section

noncomputable section

namespace Cert.Proof

open Idealize.ShloMosaic Idealize.ShloMosaic.TcCoe Idealize.SL.Sem

/-- The streams. -/
theorem inproj_x (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (r0 : m' (c.tc.loc Cert.Reference2Ideal.main_arg0) = m (c.tc.loc Cert.Kernel2Ideal.main_arg0))
    (r1 : m' (c.tc.loc Cert.Reference2Ideal.main_arg1) = m (c.tc.loc Cert.Kernel2Ideal.main_arg1))
    (r2 : m' (c.tc.loc Cert.Reference2Ideal.main_arg2) = m (c.tc.loc Cert.Kernel2Ideal.main_arg2))
    (r3 : m' (c.tc.loc Cert.Reference2Ideal.main_arg3) = m (c.tc.loc Cert.Kernel2Ideal.main_arg3))
    (r4 : m' (c.tc.loc Cert.Reference2Ideal.main_arg4) = m (c.tc.loc Cert.Kernel2Ideal.main_arg4))
    (r5 : m' (c.tc.loc Cert.Reference2Ideal.main_arg5) = m (c.tc.loc Cert.Kernel2Ideal.main_arg5)) :
    Cert.Reference2Ideal.Value.res_main_v37 m' c = (Cert.Kernel2Ideal.Gen.dats m 0 c).arrAt 9 Cert.Kernel2Ideal.cfg0.N := by
  funext i
  rw [eq_ix2 (n0 := 98304) (n1 := 1024) i, Cert.Reference2Ideal.Inproj.res_x]
  refine (Cert.Reference3Ideal.Merge.stream_apply _ _ _ _ _ (i 0) (i 1)).trans ?_
  rw [r0, r1, r2, r3, r4]
  exact (Cert.Kernel2Ideal.Inproj.finalX_apply m c (i 0) (i 1)).symm

/-- The queries, keys and values. -/
theorem inproj_qkv (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (r0 : m' (c.tc.loc Cert.Reference2Ideal.main_arg0) = m (c.tc.loc Cert.Kernel2Ideal.main_arg0))
    (r1 : m' (c.tc.loc Cert.Reference2Ideal.main_arg1) = m (c.tc.loc Cert.Kernel2Ideal.main_arg1))
    (r2 : m' (c.tc.loc Cert.Reference2Ideal.main_arg2) = m (c.tc.loc Cert.Kernel2Ideal.main_arg2))
    (r3 : m' (c.tc.loc Cert.Reference2Ideal.main_arg3) = m (c.tc.loc Cert.Kernel2Ideal.main_arg3))
    (r4 : m' (c.tc.loc Cert.Reference2Ideal.main_arg4) = m (c.tc.loc Cert.Kernel2Ideal.main_arg4))
    (r5 : m' (c.tc.loc Cert.Reference2Ideal.main_arg5) = m (c.tc.loc Cert.Kernel2Ideal.main_arg5)) :
    Cert.Reference2Ideal.Value.res_main_v102 m' c = (Cert.Kernel2Ideal.Gen.dats m 0 c).arrAt 10 Cert.Kernel2Ideal.cfg0.N := by
  funext i
  rw [eq_ix2 (n0 := 98304) (n1 := 3072) i, Cert.Reference2Ideal.Inproj.res_qkv]
  refine (Cert.Reference2Ideal.Inproj.qkvV_apply _ (i 0) (i 1)).trans ?_
  refine Eq.trans ?_ (Cert.Kernel2Ideal.Inproj.finalQ_apply m c (i 0) (i 1)).symm
  refine congrArg (fun u => Cert.Inproj.qkvRow u _ _ (i 1)) (funext fun e => ?_)
  refine (Cert.Reference2Ideal.Inproj.prodV_apply m' c (i 0) e).trans ?_
  rw [r0, r1, r2, r3, r4, r5]

/-- The other products. -/
theorem inproj_rest (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (r0 : m' (c.tc.loc Cert.Reference2Ideal.main_arg0) = m (c.tc.loc Cert.Kernel2Ideal.main_arg0))
    (r1 : m' (c.tc.loc Cert.Reference2Ideal.main_arg1) = m (c.tc.loc Cert.Kernel2Ideal.main_arg1))
    (r2 : m' (c.tc.loc Cert.Reference2Ideal.main_arg2) = m (c.tc.loc Cert.Kernel2Ideal.main_arg2))
    (r3 : m' (c.tc.loc Cert.Reference2Ideal.main_arg3) = m (c.tc.loc Cert.Kernel2Ideal.main_arg3))
    (r4 : m' (c.tc.loc Cert.Reference2Ideal.main_arg4) = m (c.tc.loc Cert.Kernel2Ideal.main_arg4))
    (r5 : m' (c.tc.loc Cert.Reference2Ideal.main_arg5) = m (c.tc.loc Cert.Kernel2Ideal.main_arg5)) :
    Cert.Reference2Ideal.Value.res_main_v103 m' c = (Cert.Kernel2Ideal.Gen.dats m 0 c).arrAt 11 Cert.Kernel2Ideal.cfg0.N := by
  funext i
  rw [eq_ix2 (n0 := 98304) (n1 := 4096) i, Cert.Reference2Ideal.Inproj.res_rest]
  refine (Cert.Reference2Ideal.Inproj.restV_apply _ (i 0) (i 1)).trans ?_
  refine Eq.trans ?_ (Cert.Kernel2Ideal.Inproj.finalR_apply m c (i 0) (i 1)).symm
  refine (Cert.Reference2Ideal.Inproj.prodV_apply m' c (i 0) _).trans ?_
  rw [r0, r1, r2, r3, r4, r5]

/-- The reference ends with its arguments unchanged; it declares no semaphore. -/
theorem frame_ref2 : Cert.quiescent_Reference2Ideal := fun m g _ =>
  (θ_run _ _ _).mono (fun r h => ⟨fun c => (h c).2.2.2, sem_eq_zero_of_no_sems (by decide) r.2⟩) (Cert.Reference2Ideal.Value.run m g)

/-- The projection and its reference end with the same results. -/
theorem algebraic_inproj : Cert.algebraic_Kernel2Ideal_Reference2Ideal := by
  intro m g m' g' hp hm
  refine ⟨_, _, _, Cert.Kernel2Ideal.Value.run_blocks m g,
    (θ_run _ _ _).mono (fun r h c => ⟨(h c).1.trans ?_, (h c).2.1.trans ?_, (h c).2.2.1.trans ?_, (h c).2.2.2⟩) (Cert.Reference2Ideal.Value.run m' g')⟩
  · obtain ⟨r0, r1, r2, r3, r4, r5⟩ := hm c
    exact inproj_x m m' c r0 r1 r2 r3 r4 r5
  · obtain ⟨r0, r1, r2, r3, r4, r5⟩ := hm c
    exact inproj_qkv m m' c r0 r1 r2 r3 r4 r5
  · obtain ⟨r0, r1, r2, r3, r4, r5⟩ := hm c
    exact inproj_rest m m' c r0 r1 r2 r3 r4 r5

end Cert.Proof

end
-- ==== Proof.Merge.Tile.lean ====
/-
  The layer's end on 256 rows as the kernel computes it, entry by entry: its payload is the norm of eight column slabs.
-/
module

public import proofs.«01_k».proof.Proof.Gen.Kernel3Ideal.Skeleton
public import proofs.«01_k».proof.Proof.Merge.Math

@[expose] public section

noncomputable section

namespace Cert.Kernel3Ideal.Merge

open Cert.Merge Cert.Kernel3Ideal Cert.Kernel3Ideal.Gen Idealize.ShloMosaic Idealize.SL.Sem

section Defs
variable {F : FTy → Type} [FloatOps F]

/-- A slab of 128 columns: the scaled stream plus the gated experts' outputs. -/
def slab (p q x y z : FVec F S256x128 .f32) : FVec F S256x128 .f32 :=
  addf (mulf (broadcast S256x128 (Scalar.ofBits .f32 0x3FD744FD#32)) x) (addf (mulf p y) (mulf q z))

/-- Eight slabs side by side. -/
def joined (S : Fin 8 → FVec F S256x128 .f32) : FVec F S256x1024 .f32 :=
  concatenate S256x1024 1 [⟨S256x128, S 0⟩, ⟨S256x128, S 1⟩, ⟨S256x128, S 2⟩, ⟨S256x128, S 3⟩, ⟨S256x128, S 4⟩, ⟨S256x128, S 5⟩,
    ⟨S256x128, S 6⟩, ⟨S256x128, S 7⟩] concatenates_S256x128_S256x128_S256x128_S256x128_S256x128_S256x128_S256x128_S256x128_S256x1024_d1

/-- The means of the rows. -/
def means (v : FVec F S256x1024 .f32) : FVec F S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

/-- The rows less their means. -/
def centre (v : FVec F S256x1024 .f32) : FVec F S256x1024 .f32 :=
  subf v (broadcastTo S256x1024 (means v) broadcasts_S256x1_S256x1024)

/-- The norm of the rows. -/
def norms (g b : FVec F S1x1024 .f32) (v : FVec F S256x1024 .f32) : FVec F S256x1024 .f32 :=
  addf (mulf (mulf (centre v) (broadcastTo S256x1024
      (rsqrt (addf (means (mulf (centre v) (centre v))) (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

end Defs

set_option maxRecDepth 16384

theorem gate0_apply (R : FVec Ideal S256x128 .f32) (r : Fin 256) (l : Fin 128) : k0_pay2 R (ix2 r l) = R (ix2 r 2) := by
  pointwise [k0_pay2]

theorem gate1_apply (R : FVec Ideal S256x128 .f32) (r : Fin 256) (l : Fin 128) : k0_pay3 R (ix2 r l) = R (ix2 r 3) := by
  pointwise [k0_pay3]

theorem slab_apply (p q x y z : FVec Ideal S256x128 .f32) (r : Fin 256) (l : Fin 128) :
    slab p q x y z (ix2 r l) = mixAt (x (ix2 r l)) (y (ix2 r l)) (z (ix2 r l)) (p (ix2 r l)) (q (ix2 r l)) := by
  pointwise [slab, mixAt]

theorem joined_apply (S : Fin 8 → FVec Ideal S256x128 .f32) (r : Fin 256) (k : Fin 8) (l : Fin 128) :
    joined S (ix2 r ⟨128 * k + l, by omega⟩) = S k (ix2 r l) := by
  have hl := l.isLt
  fin_cases k <;> pointwise [joined]
  all_goals
    simp (disch := omega) only [dif_neg, dif_pos]
    exact congrArg (fun l => S _ (ix2 r l)) (Fin.ext (by dsimp only; omega))

theorem joined_at (S : Fin 8 → FVec Ideal S256x128 .f32) (r : Fin 256) (e : Fin 1024) :
    joined S (ix2 r e) = S ⟨e / 128, by omega⟩ (ix2 r ⟨e % 128, by omega⟩) := by
  have h := joined_apply S r ⟨e / 128, by omega⟩ ⟨e % 128, by omega⟩
  rw [← h]
  exact congrArg (fun e => joined S (ix2 r e)) (Fin.ext (by show e.val = 128 * (e.val / 128) + e.val % 128; omega))

theorem means_apply (v : FVec Ideal S256x1024 .f32) (r : Fin 256) : means v (ix2 r 0) = mean fun e => v (ix2 r e) := by
  pointwise [means, mean]

theorem centre_apply (v : FVec Ideal S256x1024 .f32) (r : Fin 256) (e : Fin 1024) :
    centre v (ix2 r e) = centred (fun e => v (ix2 r e)) e := by
  pointwise [centre]
  rw [means_apply]
  rfl

theorem norms_apply (g b : FVec Ideal S1x1024 .f32) (v : FVec Ideal S256x1024 .f32) (r : Fin 256) (e : Fin 1024) :
    norms g b v (ix2 r e) = normRow (fun e => v (ix2 r e)) (fun e => g (ix2 0 e)) (fun e => b (ix2 0 e)) e := by
  pointwise [norms]
  rw [means_apply, centre_apply]
  pointwise
  simp only [centre_apply]
  rfl

/-- The payload of the output. -/
theorem pay_apply (R : FVec Ideal S256x128 .f32) (X Y Z : Fin 8 → FVec Ideal S256x128 .f32) (g b : FVec Ideal S1x1024 .f32)
    (r : Fin 256) (e : Fin 1024) :
    k0_pay1 (F := Ideal) (k0_pay2 R) (k0_pay3 R) (k0_pay4 R (X 0) (Y 0) (Z 0)) (k0_pay5 R (X 1) (Y 1) (Z 1)) (k0_pay6 R (X 2) (Y 2) (Z 2))
      (k0_pay7 (k0_pay2 R) (k0_pay3 R) (X 3) (Y 3) (Z 3)) (k0_pay8 (k0_pay2 R) (k0_pay3 R) (X 4) (Y 4) (Z 4))
      (k0_pay9 (k0_pay2 R) (k0_pay3 R) (X 5) (Y 5) (Z 5)) (k0_pay10 (X 6)) (k0_pay11 (k0_pay2 R) (Y 6)) (k0_pay12 (k0_pay3 R) (Z 6))
      (X 7) (Y 7) (Z 7) g b (ix2 r e)
    = mergeRow (fun e => X ⟨e / 128, by omega⟩ (ix2 r ⟨e % 128, by omega⟩)) (fun e => Y ⟨e / 128, by omega⟩ (ix2 r ⟨e % 128, by omega⟩))
        (fun e => Z ⟨e / 128, by omega⟩ (ix2 r ⟨e % 128, by omega⟩)) (R (ix2 r 2)) (R (ix2 r 3)) (fun e => g (ix2 0 e))
        (fun e => b (ix2 0 e)) e := by
  show norms g b (joined fun k => slab (k0_pay2 R) (k0_pay3 R) (X k) (Y k) (Z k)) (ix2 r e) = _
  rw [norms_apply]
  simp only [joined_at, slab_apply, gate0_apply, gate1_apply]
  rfl

end Cert.Kernel3Ideal.Merge

end
-- ==== Proof.Merge.Block.lean ====
/-
  What one grid point of the layer's end on the prompt leaves in its output block.
-/
module

public import proofs.«01_k».proof.Proof.Merge.Tile
public import proofs.«01_k».proof.Proof.Gen.Kernel3Ideal.Frame
public import Idealize.ShloMosaic.Lib.Pipeline.ValueKit.Tiles

@[expose] public section

noncomputable section

namespace Cert.Kernel3Ideal.Merge

open Cert.Merge Cert.Kernel3Ideal Cert.Kernel3Ideal.Gen Idealize.ShloMosaic Idealize.ShloMosaic.TcCoe Idealize.SL.Sem

/-- The output block of a grid point: each of its rows is a row of the stream. -/
def blockOut (x0 x1 x2 : Vec Ideal S2048x128 .f32) (x3 : Vec Ideal S256x128 .f32) (x4 x5 : Vec Ideal S1x1024 .f32) :
    Vec Ideal S256x1024 .f32 := fun y =>
  have h0 : (y 0).val < 256 := (y 0).isLt
  mergeRow (fun e => x0 (ix2 ⟨8 * (y 0).val + e / 128, by omega⟩ ⟨e % 128, by omega⟩))
    (fun e => x1 (ix2 ⟨8 * (y 0).val + e / 128, by omega⟩ ⟨e % 128, by omega⟩))
    (fun e => x2 (ix2 ⟨8 * (y 0).val + e / 128, by omega⟩ ⟨e % 128, by omega⟩))
    (x3 (ix2 ⟨(y 0).val, h0⟩ 2)) (x3 (ix2 ⟨(y 0).val, h0⟩ 3)) (fun e => x4 (ix2 0 e)) (fun e => x5 (ix2 0 e)) ⟨(y 1).val, (y 1).isLt⟩

set_option maxRecDepth 16384

theorem strided_inb (o : Fin 8) : ∀ a : Fin S2048x128.rank, (![256, 128] : Fin 2 → ℕ) a = 0
    ∨ (![o.val, 0] : Fin 2 → ℕ) a + (![8, 1] : Fin 2 → ℕ) a * ((![256, 128] : Fin 2 → ℕ) a - 1) < S2048x128.size a := by
  intro a
  have := o.isLt
  fin_cases a <;> simp <;> omega

/-- Every eighth row of a block, from a given one on. -/
def strided {sg : RefSig} (arg : Memref sg .tc .vmem S2048x128 .f32) (harg : arg.IsWhole) (x : Vec Ideal S2048x128 .f32) (o : Fin 8) :
    Vec Ideal S256x128 .f32 :=
  View.readAt (Elt Ideal) arg.view { off := ![o.val, 0], size := ![256, 128], stride := ![8, 1], inb := strided_inb o } (harg.unread x)

theorem strided_apply {sg : RefSig} (arg : Memref sg .tc .vmem S2048x128 .f32) (harg : arg.IsWhole) (x : Vec Ideal S2048x128 .f32) (o : Fin 8)
    (r : Fin 256) (l : Fin 128) : strided arg harg x o (ix2 r l) = x (ix2 ⟨8 * r + o, by omega⟩ l) := by
  unfold strided View.readAt
  rw [Memref.IsWhole.read_unread]
  refine congrArg x (funext fun a => Fin.ext ?_)
  fin_cases a <;> simp [LoadRect.idx] <;> omega

/-- The stored block, entry by entry. -/
theorem tile {sg : RefSig} (arg1 : Memref sg .tc .vmem S2048x128 .f32) (harg1 : arg1.IsWhole) (arg2 : Memref sg .tc .vmem S2048x128 .f32) (harg2 : arg2.IsWhole)
    (arg3 : Memref sg .tc .vmem S2048x128 .f32) (harg3 : arg3.IsWhole) (x0 x1 x2 : Vec Ideal S2048x128 .f32) (x3 R : Vec Ideal S256x128 .f32)
    (x4 x5 g b : Vec Ideal S1x1024 .f32) (hR : ∀ r e, R (ix2 r e) = x3 (ix2 r e)) (hg : ∀ e, g (ix2 0 e) = x4 (ix2 0 e))
    (hb : ∀ e, b (ix2 0 e) = x5 (ix2 0 e)) (X Y Z : Fin 8 → Vec Ideal S256x128 .f32) (hX : X = strided arg1 harg1 x0)
    (hY : Y = strided arg2 harg2 x1) (hZ : Z = strided arg3 harg3 x2) (x y : S256x1024.Idx)
    (h0 : (y 0).val = (x 0).val) (h1 : (y 1).val = (x 1).val) :
    k0_pay1 (F := Ideal) (k0_pay2 R) (k0_pay3 R) (k0_pay4 R (X 0) (Y 0) (Z 0)) (k0_pay5 R (X 1) (Y 1) (Z 1)) (k0_pay6 R (X 2) (Y 2) (Z 2))
      (k0_pay7 (k0_pay2 R) (k0_pay3 R) (X 3) (Y 3) (Z 3)) (k0_pay8 (k0_pay2 R) (k0_pay3 R) (X 4) (Y 4) (Z 4))
      (k0_pay9 (k0_pay2 R) (k0_pay3 R) (X 5) (Y 5) (Z 5)) (k0_pay10 (X 6)) (k0_pay11 (k0_pay2 R) (Y 6)) (k0_pay12 (k0_pay3 R) (Z 6))
      (X 7) (Y 7) (Z 7) g b x = blockOut x0 x1 x2 x3 x4 x5 y := by
  obtain ⟨r, e, rfl⟩ : ∃ (r : Fin 256) (e : Fin 1024), x = ix2 r e := ⟨x 0, x 1, eq_ix2 x⟩
  have e0 : (y 0).val = r.val := h0
  have e1 : (y 1).val = e.val := h1
  rw [pay_apply]
  subst hX hY hZ
  unfold blockOut
  refine mergeRow_congr (fun e => ?_) (fun e => ?_) (fun e => ?_) ?_ ?_ hg hb (Fin.ext e1.symm)
  · rw [strided_apply]
    exact congrArg (fun k => x0 (ix2 k _)) (Fin.ext (by simp only [e0]))
  · rw [strided_apply]
    exact congrArg (fun k => x1 (ix2 k _)) (Fin.ext (by simp only [e0]))
  · rw [strided_apply]
    exact congrArg (fun k => x2 (ix2 k _)) (Fin.ext (by simp only [e0]))
  · rw [hR]
    exact congrArg (fun k => x3 (ix2 k _)) (Fin.ext e0.symm)
  · rw [hR]
    exact congrArg (fun k => x3 (ix2 k _)) (Fin.ext e0.symm)

/-- What a grid point leaves in the output block. -/
theorem out_eq (c : Dev nD) (i : grid0.Coords) (arg1 : Memref sig .tc .vmem S2048x128 .f32) (harg1 : arg1.IsWhole)
    (arg2 : Memref sig .tc .vmem S2048x128 .f32) (harg2 : arg2.IsWhole) (arg3 : Memref sig .tc .vmem S2048x128 .f32) (harg3 : arg3.IsWhole)
    (arg4 : Memref sig .tc .vmem S256x128 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S256x1024 .f32) (harg7 : arg7.IsWhole)
    (x0 x1 x2 : Vec Ideal S2048x128 .f32) (x3 : Vec Ideal S256x128 .f32) (x4 x5 : Vec Ideal S1x1024 .f32) :
    out0_A_6 c i arg1 harg1 arg2 harg2 arg3 harg3 arg4 harg4 arg5 harg5 arg6 harg6 arg7 harg7 x0 x1 x2 x3 x4 x5
      = blockOut x0 x1 x2 x3 x4 x5 := by
  funext y
  unfold out0_A_6
  rw [View.read_writes_eq_canon (h := cover0_A_6 c i arg1 harg1 arg2 harg2 arg3 harg3 arg4 harg4 arg5 harg5 arg6 harg6 arg7 harg7 x0 x1 x2 x3 x4 x5)]
  unfold kernelRun0_A
  dsimp only
  sl_unfold_words
  simp only [View.readAt_eq_ld, Memref.IsWhole.read_unread]
  canon_tiles x h
  refine tile arg1 harg1 arg2 harg2 arg3 harg3 x0 x1 x2 x3 _ x4 x5 _ _ (fun r e => ?_) (fun e => ?_) (fun e => ?_)
    (strided arg1 harg1 x0) (strided arg2 harg2 x1) (strided arg3 harg3 x2) rfl rfl rfl x y (by omega) (by omega)
  all_goals
    refine View.ld_unit_apply_of _ _ _ _ _ _ fun a => ?_
    fin_cases a <;> simp

end Cert.Kernel3Ideal.Merge

end
-- ==== Proof.Merge.Array.lean ====
/-
  The result array of the layer's end on the prompt as one function of its arguments, at the extended reals.
-/
module

public import proofs.«01_k».proof.Proof.Merge.Block
public import proofs.«01_k».proof.Proof.Gen.Kernel3Ideal.Value
public import Idealize.ShloMosaic.Lib.Pipeline.ValueKit.Geometry
public import Idealize.ShloMosaic.Lib.StableHlo.Run
public import Idealize.ShloMosaic.Lib.Tactic.CleanTypes

@[expose] public section

noncomputable section

namespace Cert.Kernel3Ideal.Merge

open Cert.Merge Cert.Kernel3Ideal Cert.Kernel3Ideal.Gen Cert.Kernel3Ideal.Value Idealize.ShloMosaic Idealize.ShloMosaic.TcCoe Idealize.SL.Sem

variable (m : (ℓ : Loc nD τ sig) → Buf (Elt Ideal) ℓ) (ρ : Dev nD → PrngReg)

/-- The result array over the stream, the experts' outputs, the routes, the gain and the offset. -/
def whole (x : Vec Ideal S786432x128 .f32) (y : Vec Ideal S1581056x128 .f32) (R : Vec Ideal S98304x128 .f32) (g b : Vec Ideal S1x1024 .f32) :
    Vec Ideal S32768x1024 .f32 := fun i =>
  have h0 : (i 0).val < 32768 := (i 0).isLt
  streamAt x y R (fun e => g (ix2 0 e)) (fun e => b (ix2 0 e)) ⟨(i 0).val, by omega⟩ ⟨(i 1).val, (i 1).isLt⟩

/-- Each window's block index at a grid point. -/
theorem index_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 384 + win0_6.index t (0 : Fin 2) ∧ win0_2.index t (1 : Fin 2) = 0
    ∧ win0_3.index t (0 : Fin 2) = win0_6.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) < 128 ∧ win0_6.index t (1 : Fin 2) = 0 :=
  (by decide +kernel : ∀ t : Fin grid0.N, _)

theorem final (c : Dev nD) : (dats m 0 c).arrAt 6 cfg0.N
    = whole (V m c main_arg0) (V m c main_arg1) (V m c main_arg2) (V m c main_v0) (V m c main_v1) := by
  refine (dats m 0 c).arrAt_eq_of_covers 6 _ (by decide +kernel) fun t hf y => ?_
  blk_simp
  rw [after0_6]
  unfold outsAt0
  rw [out_eq]
  obtain ⟨a0, a0', a1, a1', a2, a2', a3, a3', a4, a4', a5, a5', hb, hh⟩ := index_facts t
  obtain ⟨r, e, rfl⟩ : ∃ (r : Fin 256) (e : Fin 1024), y = ix2 r e := ⟨y 0, y 1, eq_ix2 y⟩
  unfold blockOut whole streamAt
  blk_simp [iblk]
  refine mergeRow_congr (fun e => ?_) (fun e => ?_) (fun e => ?_) ?_ ?_ (fun e => ?_) (fun e => ?_) ?_
  · refine congrArg (V m c main_arg0) (funext fun a => Fin.ext ?_)
    match a with
    | ⟨0, _⟩ => blk_simp [a0]; try (dsimp only; omega)
    | ⟨1, _⟩ => blk_simp [a0']; try (dsimp only; omega)
  · refine congrArg (V m c main_arg1) (funext fun a => Fin.ext ?_)
    match a with
    | ⟨0, _⟩ => blk_simp [a1]; try (dsimp only; omega)
    | ⟨1, _⟩ => blk_simp [a1']; try (dsimp only; omega)
  · refine congrArg (V m c main_arg1) (funext fun a => Fin.ext ?_)
    match a with
    | ⟨0, _⟩ => blk_simp [a2]; try (dsimp only; omega)
    | ⟨1, _⟩ => blk_simp [a2']; try (dsimp only; omega)
  · refine congrArg (V m c main_arg2) (funext fun a => Fin.ext ?_)
    match a with
    | ⟨0, _⟩ => blk_simp [a3]; try (dsimp only; omega)
    | ⟨1, _⟩ => blk_simp [a3']; try (dsimp only; omega)
  · refine congrArg (V m c main_arg2) (funext fun a => Fin.ext ?_)
    match a with
    | ⟨0, _⟩ => blk_simp [a3]; try (dsimp only; omega)
    | ⟨1, _⟩ => blk_simp [a3']; try (dsimp only; omega)
  · refine congrArg (V m c main_v0) (funext fun a => Fin.ext ?_)
    match a with
    | ⟨0, _⟩ => blk_simp [a4]
    | ⟨1, _⟩ => blk_simp [a4']
  · refine congrArg (V m c main_v1) (funext fun a => Fin.ext ?_)
    match a with
    | ⟨0, _⟩ => blk_simp [a5]
    | ⟨1, _⟩ => blk_simp [a5']
  · refine Fin.ext ?_
    show e.val = win0_6.index t 1 * 1024 + e.val
    omega

/-- The gain and the offset that the call takes. -/
theorem gain (c : Dev nD) (e : Fin 1024) : (V m c main_v0 : Vec Ideal S1x1024 .f32) (ix2 0 e) = (m (c.tc.loc main_arg3) : Vec Ideal S1024 .f32) (ix1 e) := by
  show StableHlo.after hostOps0 (fun b => m (c, b)) (Proc.devRef .tc main_v0) _ = _
  after_results_simp
  clean_types
  pointwise

theorem offset (c : Dev nD) (e : Fin 1024) : (V m c main_v1 : Vec Ideal S1x1024 .f32) (ix2 0 e) = (m (c.tc.loc main_arg4) : Vec Ideal S1024 .f32) (ix1 e) := by
  show StableHlo.after hostOps0 (fun b => m (c, b)) (Proc.devRef .tc main_v1) _ = _
  after_results_simp
  clean_types
  pointwise

/-- The result array, at an entry. -/
theorem final_apply (c : Dev nD) (n : Fin 32768) (e : Fin 1024) : ((dats m 0 c).arrAt 6 cfg0.N : Vec Ideal S32768x1024 .f32) (ix2 n e)
    = streamAt (m (c.tc.loc main_arg0)) (m (c.tc.loc main_arg1)) (m (c.tc.loc main_arg2)) (fun e => (m (c.tc.loc main_arg3) : Vec Ideal S1024 .f32) (ix1 e))
      (fun e => (m (c.tc.loc main_arg4) : Vec Ideal S1024 .f32) (ix1 e)) ⟨n, by omega⟩ e := by
  rw [final, V_main_arg0 m c, V_main_arg1 m c, V_main_arg2 m c]
  exact congrArg₂ (fun g b => streamAt (m (c.tc.loc main_arg0)) (m (c.tc.loc main_arg1)) (m (c.tc.loc main_arg2)) g b ⟨n, by omega⟩ e)
    (funext (gain m c)) (funext (offset m c))

end Cert.Kernel3Ideal.Merge

end
-- ==== Proof.Merge.Block4.lean ====
/-
  What one grid point of the layer's end on the samples leaves in its output block.
-/
module

public import proofs.«01_k».proof.Proof.Merge.Block
public import proofs.«01_k».proof.Proof.Gen.Kernel4Ideal.Frame
public import Idealize.ShloMosaic.Lib.Pipeline.ValueKit.Tiles

@[expose] public section

noncomputable section

namespace Cert.Kernel4Ideal.Merge

open Cert.Kernel3Ideal.Merge (blockOut tile strided)
open Cert.Merge Cert.Kernel4Ideal Cert.Kernel4Ideal.Gen Idealize.ShloMosaic Idealize.ShloMosaic.TcCoe Idealize.SL.Sem

set_option maxRecDepth 16384

/-- What a grid point leaves in the output block. -/
theorem out_eq (c : Dev nD) (i : grid0.Coords) (arg1 : Memref sig .tc .vmem S2048x128 .f32) (harg1 : arg1.IsWhole)
    (arg2 : Memref sig .tc .vmem S2048x128 .f32) (harg2 : arg2.IsWhole) (arg3 : Memref sig .tc .vmem S2048x128 .f32) (harg3 : arg3.IsWhole)
    (arg4 : Memref sig .tc .vmem S256x128 .f32) (harg4 : arg4.IsWhole) (arg5 : Memref sig .tc .vmem S1x1024 .f32) (harg5 : arg5.IsWhole)
    (arg6 : Memref sig .tc .vmem S1x1024 .f32) (harg6 : arg6.IsWhole) (arg7 : Memref sig .tc .vmem S256x1024 .f32) (harg7 : arg7.IsWhole)
    (x0 x1 x2 : Vec Ideal S2048x128 .f32) (x3 : Vec Ideal S256x128 .f32) (x4 x5 : Vec Ideal S1x1024 .f32) :
    out0_A_6 c i arg1 harg1 arg2 harg2 arg3 harg3 arg4 harg4 arg5 harg5 arg6 harg6 arg7 harg7 x0 x1 x2 x3 x4 x5
      = blockOut x0 x1 x2 x3 x4 x5 := by
  funext y
  unfold out0_A_6
  rw [View.read_writes_eq_canon (h := cover0_A_6 c i arg1 harg1 arg2 harg2 arg3 harg3 arg4 harg4 arg5 harg5 arg6 harg6 arg7 harg7 x0 x1 x2 x3 x4 x5)]
  unfold kernelRun0_A
  dsimp only
  sl_unfold_words
  simp only [View.readAt_eq_ld, Memref.IsWhole.read_unread]
  canon_tiles x h
  refine tile arg1 harg1 arg2 harg2 arg3 harg3 x0 x1 x2 x3 _ x4 x5 _ _ (fun r e => ?_) (fun e => ?_) (fun e => ?_)
    (strided arg1 harg1 x0) (strided arg2 harg2 x1) (strided arg3 harg3 x2) rfl rfl rfl x y (by omega) (by omega)
  all_goals
    refine View.ld_unit_apply_of _ _ _ _ _ _ fun a => ?_
    fin_cases a <;> simp

end Cert.Kernel4Ideal.Merge

end
-- ==== Proof.Merge.Array4.lean ====
/-
  The result array of the layer's end on the samples as one function of its arguments, at the extended reals.
-/
module

public import proofs.«01_k».proof.Proof.Merge.Block4
public import proofs.«01_k».proof.Proof.Gen.Kernel4Ideal.Value
public import Idealize.ShloMosaic.Lib.Pipeline.ValueKit.Geometry
public import Idealize.ShloMosaic.Lib.StableHlo.Run
public import Idealize.ShloMosaic.Lib.Tactic.CleanTypes

@[expose] public section

noncomputable section

namespace Cert.Kernel4Ideal.Merge

open Cert.Kernel3Ideal.Merge (blockOut)
open Cert.Merge Cert.Kernel4Ideal Cert.Kernel4Ideal.Gen Cert.Kernel4Ideal.Value Idealize.ShloMosaic Idealize.ShloMosaic.TcCoe Idealize.SL.Sem

variable (m : (ℓ : Loc nD τ sig) → Buf (Elt Ideal) ℓ) (ρ : Dev nD → PrngReg)

/-- The result array over the stream, the experts' outputs, the routes, the gain and the offset. -/
def whole (x : Vec Ideal S786432x128 .f32) (y : Vec Ideal S1581056x128 .f32) (R : Vec Ideal S98304x128 .f32) (g b : Vec Ideal S1x1024 .f32) :
    Vec Ideal S65536x1024 .f32 := fun i =>
  have h0 : (i 0).val < 65536 := (i 0).isLt
  streamAt x y R (fun e => g (ix2 0 e)) (fun e => b (ix2 0 e)) ⟨32768 + (i 0).val, by omega⟩ ⟨(i 1).val, (i 1).isLt⟩

/-- Each window's block index at a grid point. -/
theorem index_facts : ∀ t : Fin cfg0.N,
    win0_0.index t (0 : Fin 2) = 128 + win0_6.index t (0 : Fin 2) ∧ win0_0.index t (1 : Fin 2) = 0
    ∧ win0_1.index t (0 : Fin 2) = 128 + win0_6.index t (0 : Fin 2) ∧ win0_1.index t (1 : Fin 2) = 0
    ∧ win0_2.index t (0 : Fin 2) = 512 + win0_6.index t (0 : Fin 2) ∧ win0_2.index t (1 : Fin 2) = 0
    ∧ win0_3.index t (0 : Fin 2) = 128 + win0_6.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) < 256 ∧ win0_6.index t (1 : Fin 2) = 0 :=
  (by decide +kernel : ∀ t : Fin grid0.N, _)

theorem final (c : Dev nD) : (dats m 0 c).arrAt 6 cfg0.N
    = whole (V m c main_arg0) (V m c main_arg1) (V m c main_arg2) (V m c main_v0) (V m c main_v1) := by
  refine (dats m 0 c).arrAt_eq_of_covers 6 _ (by decide +kernel) fun t hf y => ?_
  blk_simp
  rw [after0_6]
  unfold outsAt0
  rw [out_eq]
  obtain ⟨a0, a0', a1, a1', a2, a2', a3, a3', a4, a4', a5, a5', hb, hh⟩ := index_facts t
  obtain ⟨r, e, rfl⟩ : ∃ (r : Fin 256) (e : Fin 1024), y = ix2 r e := ⟨y 0, y 1, eq_ix2 y⟩
  unfold blockOut whole streamAt
  blk_simp [iblk]
  refine mergeRow_congr (fun e => ?_) (fun e => ?_) (fun e => ?_) ?_ ?_ (fun e => ?_) (fun e => ?_) ?_
  · refine congrArg (V m c main_arg0) (funext fun a => Fin.ext ?_)
    match a with
    | ⟨0, _⟩ => blk_simp [a0]; try (dsimp only; omega)
    | ⟨1, _⟩ => blk_simp [a0']; try (dsimp only; omega)
  · refine congrArg (V m c main_arg1) (funext fun a => Fin.ext ?_)
    match a with
    | ⟨0, _⟩ => blk_simp [a1]; try (dsimp only; omega)
    | ⟨1, _⟩ => blk_simp [a1']; try (dsimp only; omega)
  · refine congrArg (V m c main_arg1) (funext fun a => Fin.ext ?_)
    match a with
    | ⟨0, _⟩ => blk_simp [a2]; try (dsimp only; omega)
    | ⟨1, _⟩ => blk_simp [a2']; try (dsimp only; omega)
  · refine congrArg (V m c main_arg2) (funext fun a => Fin.ext ?_)
    match a with
    | ⟨0, _⟩ => blk_simp [a3]; try (dsimp only; omega)
    | ⟨1, _⟩ => blk_simp [a3']; try (dsimp only; omega)
  · refine congrArg (V m c main_arg2) (funext fun a => Fin.ext ?_)
    match a with
    | ⟨0, _⟩ => blk_simp [a3]; try (dsimp only; omega)
    | ⟨1, _⟩ => blk_simp [a3']; try (dsimp only; omega)
  · refine congrArg (V m c main_v0) (funext fun a => Fin.ext ?_)
    match a with
    | ⟨0, _⟩ => blk_simp [a4]
    | ⟨1, _⟩ => blk_simp [a4']
  · refine congrArg (V m c main_v1) (funext fun a => Fin.ext ?_)
    match a with
    | ⟨0, _⟩ => blk_simp [a5]
    | ⟨1, _⟩ => blk_simp [a5']
  · refine Fin.ext ?_
    show e.val = win0_6.index t 1 * 1024 + e.val
    omega

/-- The gain and the offset that the call takes. -/
theorem gain (c : Dev nD) (e : Fin 1024) : (V m c main_v0 : Vec Ideal S1x1024 .f32) (ix2 0 e) = (m (c.tc.loc main_arg3) : Vec Ideal S1024 .f32) (ix1 e) := by
  show StableHlo.after hostOps0 (fun b => m (c, b)) (Proc.devRef .tc main_v0) _ = _
  after_results_simp
  clean_types
  pointwise

theorem offset (c : Dev nD) (e : Fin 1024) : (V m c main_v1 : Vec Ideal S1x1024 .f32) (ix2 0 e) = (m (c.tc.loc main_arg4) : Vec Ideal S1024 .f32) (ix1 e) := by
  show StableHlo.after hostOps0 (fun b => m (c, b)) (Proc.devRef .tc main_v1) _ = _
  after_results_simp
  clean_types
  pointwise

/-- The result array, at an entry. -/
theorem final_apply (c : Dev nD) (n : Fin 65536) (e : Fin 1024) : ((dats m 0 c).arrAt 6 cfg0.N : Vec Ideal S65536x1024 .f32) (ix2 n e)
    = streamAt (m (c.tc.loc main_arg0)) (m (c.tc.loc main_arg1)) (m (c.tc.loc main_arg2)) (fun e => (m (c.tc.loc main_arg3) : Vec Ideal S1024 .f32) (ix1 e))
      (fun e => (m (c.tc.loc main_arg4) : Vec Ideal S1024 .f32) (ix1 e)) ⟨32768 + n, by omega⟩ e := by
  rw [final, V_main_arg0 m c, V_main_arg1 m c, V_main_arg2 m c]
  exact congrArg₂ (fun g b => streamAt (m (c.tc.loc main_arg0)) (m (c.tc.loc main_arg1)) (m (c.tc.loc main_arg2)) g b ⟨32768 + n, by omega⟩ e)
    (funext (gain m c)) (funext (offset m c))

end Cert.Kernel4Ideal.Merge

end
-- ==== Proof.Merge.Ref4.lean ====
/-
  The reference's stream of the samples, at an index.
-/
module

public import proofs.«01_k».proof.Proof.Merge.Ref
public import proofs.«01_k».proof.Proof.Gen.Reference4Ideal.Run
public import Idealize.ShloMosaic.Lib.Tactic.CleanTypes

@[expose] public section

noncomputable section

namespace Cert.Reference4Ideal.Merge

open Cert.Reference3Ideal.Merge (mixV normV stream_apply)
open Cert.Merge Cert.Reference4Ideal Cert.Reference4Ideal.Gen Cert.Reference4Ideal.Value Idealize.ShloMosaic Idealize.ShloMosaic.TcCoe Idealize.SL.Sem

variable (m : (ℓ : Loc nD τ sig) → Buf (Elt Ideal) ℓ)

set_option maxRecDepth 16384

set_option maxHeartbeats 1000000 in
theorem res_eq (c : Dev nD) : res_main_v38 m c = extractStridedSlice S65536x1024 ![32768, 0]
    (normV (m (c.tc.loc main_arg3)) (m (c.tc.loc main_arg4)) (mixV (m (c.tc.loc main_arg0)) (m (c.tc.loc main_arg1)) (m (c.tc.loc main_arg2))))
    slices_S98304x1024_S65536x1024_32768_0 := rfl

theorem slice_apply (t : FVec Ideal S98304x1024 .f32) (n : Fin 65536) (e : Fin 1024) :
    extractStridedSlice S65536x1024 ![32768, 0] t slices_S98304x1024_S65536x1024_32768_0 (ix2 n e) = t (ix2 ⟨32768 + n, by omega⟩ e) := by
  pointwise

/-- The reference's result on the samples. -/
theorem res_apply (c : Dev nD) (n : Fin 65536) (e : Fin 1024) : (res_main_v38 m c : FVec Ideal S65536x1024 .f32) (ix2 n e)
    = streamAt (m (c.tc.loc main_arg0)) (m (c.tc.loc main_arg1)) (m (c.tc.loc main_arg2)) (fun e => (m (c.tc.loc main_arg3) : FVec Ideal S1024 .f32) (ix1 e))
      (fun e => (m (c.tc.loc main_arg4) : FVec Ideal S1024 .f32) (ix1 e)) ⟨32768 + n, by omega⟩ e := by
  rw [res_eq]
  exact (slice_apply _ n e).trans (stream_apply _ _ _ _ _ _ e)

end Cert.Reference4Ideal.Merge

end
-- ==== Proof.Merge.Claim.lean ====
/-
  The layers' sum with its normalisation is the reference's, on the prompt and on the samples.
-/
module

public import proofs.«01_k».proof.Proof.Merge.Array
public import proofs.«01_k».proof.Proof.Merge.Ref
public import proofs.«01_k».proof.Proof.Merge.Array4
public import proofs.«01_k».proof.Proof.Merge.Ref4
public import proofs.«01_k».proof.Defs
public import Idealize.ShloMosaic.Adequacy
public import Idealize.ShloMosaic.Init

@[expose] public section

noncomputable section

namespace Cert.Proof

open Idealize.ShloMosaic Idealize.ShloMosaic.TcCoe Idealize.SL.Sem

/-- The two results on the prompt, at equal arguments. -/
theorem merge_value3 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (r0 : m' (c.tc.loc Cert.Reference3Ideal.main_arg0) = m (c.tc.loc Cert.Kernel3Ideal.main_arg0))
    (r1 : m' (c.tc.loc Cert.Reference3Ideal.main_arg1) = m (c.tc.loc Cert.Kernel3Ideal.main_arg1))
    (r2 : m' (c.tc.loc Cert.Reference3Ideal.main_arg2) = m (c.tc.loc Cert.Kernel3Ideal.main_arg2))
    (r3 : m' (c.tc.loc Cert.Reference3Ideal.main_arg3) = m (c.tc.loc Cert.Kernel3Ideal.main_arg3))
    (r4 : m' (c.tc.loc Cert.Reference3Ideal.main_arg4) = m (c.tc.loc Cert.Kernel3Ideal.main_arg4)) :
    Cert.Reference3Ideal.Value.res_main_v38 m' c = (Cert.Kernel3Ideal.Gen.dats m 0 c).arrAt 6 Cert.Kernel3Ideal.cfg0.N := by
  funext i
  rw [eq_ix2 (n0 := 32768) (n1 := 1024) i]
  refine (Cert.Reference3Ideal.Merge.res_apply m' c (i 0) (i 1)).trans ?_
  rw [r0, r1, r2, r3, r4]
  exact (Cert.Kernel3Ideal.Merge.final_apply m c (i 0) (i 1)).symm

/-- The reference on the prompt ends with its arguments unchanged; it declares no semaphore. -/
theorem frame_ref3 : Cert.quiescent_Reference3Ideal := fun m g _ =>
  (θ_run _ _ _).mono (fun r h => ⟨fun c => (h c).2, sem_eq_zero_of_no_sems (by decide) r.2⟩) (Cert.Reference3Ideal.Value.run m g)

/-- The call and its reference end with one result on the prompt. -/
theorem algebraic_merge3 : Cert.algebraic_Kernel3Ideal_Reference3Ideal := by
  intro m g m' g' hp hm
  refine ⟨_, Cert.Kernel3Ideal.Value.run_blocks m g, (θ_run _ _ _).mono (fun r h c => ⟨(h c).1.trans ?_, (h c).2⟩) (Cert.Reference3Ideal.Value.run m' g')⟩
  obtain ⟨r0, r1, r2, r3, r4⟩ := hm c
  exact merge_value3 m m' c r0 r1 r2 r3 r4

/-- The two results on the samples, at equal arguments. -/
theorem merge_value4 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (r0 : m' (c.tc.loc Cert.Reference4Ideal.main_arg0) = m (c.tc.loc Cert.Kernel4Ideal.main_arg0))
    (r1 : m' (c.tc.loc Cert.Reference4Ideal.main_arg1) = m (c.tc.loc Cert.Kernel4Ideal.main_arg1))
    (r2 : m' (c.tc.loc Cert.Reference4Ideal.main_arg2) = m (c.tc.loc Cert.Kernel4Ideal.main_arg2))
    (r3 : m' (c.tc.loc Cert.Reference4Ideal.main_arg3) = m (c.tc.loc Cert.Kernel4Ideal.main_arg3))
    (r4 : m' (c.tc.loc Cert.Reference4Ideal.main_arg4) = m (c.tc.loc Cert.Kernel4Ideal.main_arg4)) :
    Cert.Reference4Ideal.Value.res_main_v38 m' c = (Cert.Kernel4Ideal.Gen.dats m 0 c).arrAt 6 Cert.Kernel4Ideal.cfg0.N := by
  funext i
  rw [eq_ix2 (n0 := 65536) (n1 := 1024) i]
  refine (Cert.Reference4Ideal.Merge.res_apply m' c (i 0) (i 1)).trans ?_
  rw [r0, r1, r2, r3, r4]
  exact (Cert.Kernel4Ideal.Merge.final_apply m c (i 0) (i 1)).symm

/-- The reference on the samples ends with its arguments unchanged; it declares no semaphore. -/
theorem frame_ref4 : Cert.quiescent_Reference4Ideal := fun m g _ =>
  (θ_run _ _ _).mono (fun r h => ⟨fun c => (h c).2, sem_eq_zero_of_no_sems (by decide) r.2⟩) (Cert.Reference4Ideal.Value.run m g)

/-- The call and its reference end with one result on the samples. -/
theorem algebraic_merge4 : Cert.algebraic_Kernel4Ideal_Reference4Ideal := by
  intro m g m' g' hp hm
  refine ⟨_, Cert.Kernel4Ideal.Value.run_blocks m g, (θ_run _ _ _).mono (fun r h c => ⟨(h c).1.trans ?_, (h c).2⟩) (Cert.Reference4Ideal.Value.run m' g')⟩
  obtain ⟨r0, r1, r2, r3, r4⟩ := hm c
  exact merge_value4 m m' c r0 r1 r2 r3 r4

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.ReferenceIdeal
public import proofs.«01_k».proof.Proof.Gen.ReferenceIdeal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Attn.Claim
public import proofs.«01_k».proof.Proof.First.Claim
public import proofs.«01_k».proof.Proof.Inproj.Claim
public import proofs.«01_k».proof.Proof.Merge.Claim
public import Idealize.ShloMosaic.Adequacy
public import Idealize.ShloMosaic.Init

@[expose] public section

noncomputable section

namespace Cert.Proof

open Idealize.ShloMosaic Idealize.ShloMosaic.TcCoe Idealize.SL.Sem

instance : Cert.Pre_finite.Facts := Cert.Pre_finite.facts

/-- The attention's reference ends with its arguments unchanged; it declares no semaphore. -/
theorem frame_ref : Cert.quiescent_ReferenceIdeal := fun m g _ =>
  (θ_run _ _ _).mono (fun r h => ⟨fun c => (h c).2, sem_eq_zero_of_no_sems (by decide) r.2⟩) (Cert.ReferenceIdeal.Value.run m g)

/-- The attention and its reference end with one result. -/
theorem algebraic_attn : Cert.algebraic_KernelIdeal_ReferenceIdeal_pre_finite := by
  intro m g m' g' hp hm
  refine ⟨_, Cert.KernelIdeal.Value.run_blocks m g, (θ_run _ _ _).mono (fun r h c => ⟨(h c).1.trans ?_, (h c).2⟩) (Cert.ReferenceIdeal.Value.run m' g')⟩
  obtain ⟨hx, hl, ha, hb, hc, hd⟩ := Cert.Pre_finite.real_args _ _ _ _ _ _ _ (hp c)
  obtain ⟨r0, r1, r2, r3, r4, r5, r6⟩ := hm c
  exact attn_value m m' c _ _ _ _ _ _ _ rfl rfl rfl rfl rfl rfl rfl r0 r1 r2 r3 r4 r5 r6 hx hl ha hb hc hd

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts,
  Cert.Pre_finite.facts,
  fun m g _ => Cert.Kernel.Gen.frame m g,
  fun m g _ => Cert.KernelIdeal.Gen.frame m g,
  fun m g _ => Cert.KernelIdeal.Gen.frame m g,
  frame_ref,
  fun m g _ => frame_ref m g trivial,
  fun m g _ => Cert.Kernel2.Gen.frame m g,
  fun m g _ => Cert.Kernel2Ideal.Gen.frame m g,
  frame_ref2,
  fun m g _ => Cert.Kernel3.Gen.frame m g,
  fun m g _ => Cert.Kernel3Ideal.Gen.frame m g,
  frame_ref3,
  fun m g _ => Cert.Kernel4.Gen.frame m g,
  fun m g _ => Cert.Kernel4Ideal.Gen.frame m g,
  frame_ref4,
  fun m g _ => Cert.Kernel5.Gen.frame m g,
  fun m g _ => Cert.Kernel5Ideal.Gen.frame m g,
  frame_ref5,
  trivial,
  algebraic_attn,
  IdealRules.named_const.statement Cert.Kernel2Ideal.κ "scale" .f32 0x3E38AA3B#32 (((1 / 8) * (Real.log 2)⁻¹ : ℝ) : EReal) rfl,
  algebraic_inproj,
  trivial,
  algebraic_merge3,
  trivial,
  algebraic_merge4,
  IdealRules.named_const.statement Cert.Kernel5Ideal.κ "scale" .f32 0x3E38AA3B#32 (((1 / 8) * (Real.log 2)⁻¹ : ℝ) : EReal) rfl,
  algebraic_first⟩

end Cert.Proof

end
